-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "qscale" .f32 0x3E38AA3B#32 (((8 * (Real.log 2))⁻¹ : ℝ) : EReal)

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ preserves_Kernel_KernelIdeal
    ∧ algebraic_KernelIdeal_ReferenceIdeal_pre_finite_qk (hKernelIdeal := hKernelIdeal) (hReferenceIdeal := hReferenceIdeal) (hPre_finite_qk := hPre_finite_qk)
-- ==== Pre_finite_qk.lean ====
abbrev S1x2048x1024 : Shape := ⟨3, ![1, 2048, 1024]⟩
abbrev S2048x1024 : Shape := ⟨2, ![2048, 1024]⟩
abbrev S2048 : Shape := ⟨1, ![2048]⟩
abbrev S1024x1024 : Shape := ⟨2, ![1024, 1024]⟩
abbrev S1024 : Shape := ⟨1, ![1024]⟩
abbrev S16x4x64 : Shape := ⟨3, ![16, 4, 64]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S1x2048x1024 .f32) (main_arg1 : FVec F S2048x1024 .f32) (main_arg2 : FVec F S2048 .f32) (main_arg3 : FVec F S1024x1024 .f32) (main_arg4 : FVec F S1024 .f32) (main_arg5 : FVec F S1024x1024 .f32) (main_arg6 : FVec F S1024 .f32) (main_arg7 : FVec F S16x4x64 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S1x2048x1024 : Shape := ⟨3, ![1, 2048, 1024]⟩
abbrev S2048x1024 : Shape := ⟨2, ![2048, 1024]⟩
abbrev S2048 : Shape := ⟨1, ![2048]⟩
abbrev S1024x1024 : Shape := ⟨2, ![1024, 1024]⟩
abbrev S1024 : Shape := ⟨1, ![1024]⟩
abbrev S16x4x64 : Shape := ⟨3, ![16, 4, 64]⟩
abbrev S_ : Shape := ⟨0, ![]⟩
abbrev S3072 : Shape := ⟨1, ![3072]⟩
abbrev S6x1x512 : Shape := ⟨3, ![6, 1, 512]⟩
abbrev S1x1024 : Shape := ⟨2, ![1, 1024]⟩
abbrev S512x1024 : Shape := ⟨2, ![512, 1024]⟩
abbrev S1x1x512 : Shape := ⟨3, ![1, 1, 512]⟩
abbrev S1024x128 : Shape := ⟨2, ![1024, 128]⟩
abbrev S2048x3072 : Shape := ⟨2, ![2048, 3072]⟩
abbrev S2048x512 : Shape := ⟨2, ![2048, 512]⟩
abbrev S1x512 : Shape := ⟨2, ![1, 512]⟩
abbrev S2048x128 : Shape := ⟨2, ![2048, 128]⟩
abbrev S1024x64 : Shape := ⟨2, ![1024, 64]⟩
abbrev S2048x64 : Shape := ⟨2, ![2048, 64]⟩
abbrev S1024x2048 : Shape := ⟨2, ![1024, 2048]⟩
abbrev S1024x1 : Shape := ⟨2, ![1024, 1]⟩

abbrev nBuf : Space → Nat
  | .hbm => 24
  | .vmem => 13
  | .smem => 0
  | _ => 0

abbrev bufTy : (tb : Table) → Fin (tcTables nBuf tb) → BufTy
  | .hbm, ⟨0, _⟩ => ⟨S1x2048x1024, .f32⟩
  | .hbm, ⟨1, _⟩ => ⟨S2048x1024, .f32⟩
  | .hbm, ⟨2, _⟩ => ⟨S2048, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S16x4x64, .f32⟩
  | .hbm, ⟨8, _⟩ => ⟨S2048x1024, .f32⟩
  | .hbm, ⟨9, _⟩ => ⟨S1024, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1024, .f32⟩
  | .hbm, ⟨18, _⟩ => ⟨S1024, .f32⟩
  | .hbm, ⟨19, _⟩ => ⟨S1024, .f32⟩
  | .hbm, ⟨20, _⟩ => ⟨S3072, .f32⟩
  | .hbm, ⟨21, _⟩ => ⟨S6x1x512, .f32⟩
  | .hbm, ⟨22, _⟩ => ⟨S1x1024, .f32⟩
  | .hbm, ⟨23, _⟩ => ⟨S2048x1024, .f32⟩
  | .local _ .vmem, ⟨0, _⟩ => ⟨S2048x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S1x1x512, .f32⟩
  | .local _ .vmem, ⟨6, _⟩ => ⟨S1x1x512, .f32⟩
  | .local _ .vmem, ⟨7, _⟩ => ⟨S1024x128, .f32⟩
  | .local _ .vmem, ⟨8, _⟩ => ⟨S1024x128, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S2048x3072, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![22], ![false]⟩

def k0_cond1 (i : grid0.Coords) : BitVec 1 :=
  let arg0 : BitVec 32 := BitVec.ofNat 32 (i 0).val
  let c6_i32 : BitVec 32 := 6#32
  let v0 : BitVec 1 := Scalar.cmpi .slt arg0 c6_i32
  let v1 : BitVec 32 := Scalar.extui v0
  let c0_i32 : BitVec 32 := 0#32
  let v2 : BitVec 1 := Scalar.cmpi .ne v1 c0_i32
  v2

def k0_off1 (i : grid0.Coords) : Fin 2 → Nat :=
  let c0_11 : Index := 0#32
  let arg0 : BitVec 32 := BitVec.ofNat 32 (i 0).val
  let c512_i32 : BitVec 32 := 512#32
  let v24 : BitVec 32 := Scalar.muli arg0 c512_i32
  let v25 : Index := Scalar.indexCast v24
  ![0, v25.toNat]
def k0_cond2 (i : grid0.Coords) : BitVec 1 :=
  let arg0 : BitVec 32 := BitVec.ofNat 32 (i 0).val
  let c6_i32_0 : BitVec 32 := 6#32
  let v3 : BitVec 1 := Scalar.cmpi .sge arg0 c6_i32_0
  let v4 : BitVec 32 := Scalar.extui v3
  let c0_i32_1 : BitVec 32 := 0#32
  let v5 : BitVec 1 := Scalar.cmpi .ne v4 c0_i32_1
  v5

def k0_off2 (i : grid0.Coords) : Fin 2 → Nat :=
  let arg0 : BitVec 32 := BitVec.ofNat 32 (i 0).val
  let c6_i32_2 : BitVec 32 := 6#32
  let v6 : BitVec 32 := Scalar.subi arg0 c6_i32_2
  let c0_i32_8 : BitVec 32 := 0#32
  let v18 : BitVec 1 := Scalar.cmpi .sgt v6 c0_i32_8
  let v19 : BitVec 32 := Scalar.extui v18
  let c0_i32_9 : BitVec 32 := 0#32
  let v20 : BitVec 1 := Scalar.cmpi .slt v6 c0_i32_9
  let v21 : BitVec 32 := Scalar.extui v20
  let v22 : BitVec 32 := Scalar.subi v19 v21
  let c8_i32_7 : BitVec 32 := 8#32
  let c0_i32_10 : BitVec 32 := 0#32
  let v23 : BitVec 1 := Scalar.cmpi .sgt c8_i32_7 c0_i32_10
  let v24 : BitVec 32 := Scalar.extui v23
  let c0_i32_11 : BitVec 32 := 0#32
  let v25 : BitVec 1 := Scalar.cmpi .slt c8_i32_7 c0_i32_11
  let v26 : BitVec 32 := Scalar.extui v25
  let v27 : BitVec 32 := Scalar.subi v24 v26
  let v28 : BitVec 1 := Scalar.cmpi .ne v22 v27
  let v29 : BitVec 32 := Scalar.remsi v6 c8_i32_7
  let c0_i32_12 : BitVec 32 := 0#32
  let v30 : BitVec 1 := Scalar.cmpi .ne v29 c0_i32_12
  let v31 : BitVec 1 := Scalar.andi v28 v30
  let v17 : BitVec 32 := Scalar.divsi v6 c8_i32_7
  let c1_i32_13 : BitVec 32 := 1#32
  let v32 : BitVec 32 := Scalar.subi v17 c1_i32_13
  let v33 : BitVec 32 := Scalar.select v31 v32 v17
  let c1024_i32 : BitVec 32 := 1024#32
  let v36 : BitVec 32 := Scalar.muli v33 c1024_i32
  let v38 : Index := Scalar.indexCast v36
  let c8_i32 : BitVec 32 := 8#32
  let c0_i32_3 : BitVec 32 := 0#32
  let v7 : BitVec 1 := Scalar.cmpi .eq c8_i32 c0_i32_3
  let c1_i32 : BitVec 32 := 1#32
  let v8 : BitVec 32 := Scalar.select v7 c1_i32 c8_i32
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c128_i32 : BitVec 32 := 128#32
  let v37 : BitVec 32 := Scalar.muli v16 c128_i32
  let v39 : Index := Scalar.indexCast v37
  ![v38.toNat, v39.toNat]
def k0_off3 (i : grid0.Coords) (c1024_i32_16 : BitVec 32) : Fin 2 → Nat :=
  let c0_17 : Index := 0#32
  let arg0 : BitVec 32 := BitVec.ofNat 32 (i 0).val
  let c6_i32_2 : BitVec 32 := 6#32
  let v6 : BitVec 32 := Scalar.subi arg0 c6_i32_2
  let c8_i32 : BitVec 32 := 8#32
  let c0_i32_3 : BitVec 32 := 0#32
  let v7 : BitVec 1 := Scalar.cmpi .eq c8_i32 c0_i32_3
  let c1_i32 : BitVec 32 := 1#32
  let v8 : BitVec 32 := Scalar.select v7 c1_i32 c8_i32
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c128_i32_15 : BitVec 32 := 128#32
  let v41 : BitVec 32 := Scalar.muli v16 c128_i32_15
  let v42 : BitVec 32 := Scalar.addi c1024_i32_16 v41
  let v43 : Index := Scalar.indexCast v42
  ![0, v43.toNat]
def k0_cond3 (i : grid0.Coords) : BitVec 1 :=
  let arg0 : BitVec 32 := BitVec.ofNat 32 (i 0).val
  let c6_i32_2 : BitVec 32 := 6#32
  let v6 : BitVec 32 := Scalar.subi arg0 c6_i32_2
  let c8_i32 : BitVec 32 := 8#32
  let c0_i32_3 : BitVec 32 := 0#32
  let v7 : BitVec 1 := Scalar.cmpi .eq c8_i32 c0_i32_3
  let c1_i32 : BitVec 32 := 1#32
  let v8 : BitVec 32 := Scalar.select v7 c1_i32 c8_i32
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_27 : BitVec 32 := 0#32
  let v82 : BitVec 1 := Scalar.cmpi .eq v16 c0_i32_27
  let v83 : BitVec 32 := Scalar.extui v82
  let c0_i32_28 : BitVec 32 := 0#32
  let v84 : BitVec 1 := Scalar.cmpi .ne v83 c0_i32_28
  v84

def k0_cond4 (i : grid0.Coords) : BitVec 1 :=
  let arg0 : BitVec 32 := BitVec.ofNat 32 (i 0).val
  let c6_i32_2 : BitVec 32 := 6#32
  let v6 : BitVec 32 := Scalar.subi arg0 c6_i32_2
  let c8_i32 : BitVec 32 := 8#32
  let c0_i32_3 : BitVec 32 := 0#32
  let v7 : BitVec 1 := Scalar.cmpi .eq c8_i32 c0_i32_3
  let c1_i32 : BitVec 32 := 1#32
  let v8 : BitVec 32 := Scalar.select v7 c1_i32 c8_i32
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_29 : BitVec 32 := 0#32
  let v85 : BitVec 1 := Scalar.cmpi .ne v16 c0_i32_29
  let v86 : BitVec 32 := Scalar.extui v85
  let c0_i32_30 : BitVec 32 := 0#32
  let v87 : BitVec 1 := Scalar.cmpi .ne v86 c0_i32_30
  v87

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c3_i32 : BitVec 32 := 3#32
  let v0 : BitVec 32 := Scalar.maxsi c0_i32 arg0
  let v1 : BitVec 32 := Scalar.minsi c3_i32 v0
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![v2.toNat, c0_i32_0.toNat]

def cc0_transform_3 (i : grid0.Coords) : Fin 3 → Nat :=
  let arg0 : BitVec 32 := BitVec.ofNat 32 (i 0).val
  let c5_i32 : BitVec 32 := 5#32
  let v0 : BitVec 32 := Scalar.minsi arg0 c5_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let c6_i32 : BitVec 32 := 6#32
  let v0 : BitVec 32 := Scalar.subi arg0 c6_i32
  let c0_i32 : BitVec 32 := 0#32
  let v1 : BitVec 32 := Scalar.maxsi v0 c0_i32
  let c8_i32 : BitVec 32 := 8#32
  let c0_i32_0 : BitVec 32 := 0#32
  let v2 : BitVec 1 := Scalar.cmpi .eq c8_i32 c0_i32_0
  let c1_i32 : BitVec 32 := 1#32
  let v3 : BitVec 32 := Scalar.select v2 c1_i32 c8_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  ![c0_i32_4.toNat, v11.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c6_i32 : BitVec 32 := 6#32
  let v0 : BitVec 32 := Scalar.subi arg0 c6_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c0_i32_5 : BitVec 32 := 0#32
  let c0_i32_6 : BitVec 32 := 0#32
  ![v18.toNat, c0_i32_5.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "qscale" => some (((8 * (Real.log 2))⁻¹ : ℝ) : EReal)
  | _ => none
-- ==== ReferenceIdeal.lean ====
abbrev S1x2048x1024 : Shape := ⟨3, ![1, 2048, 1024]⟩
abbrev S2048x1024 : Shape := ⟨2, ![2048, 1024]⟩
abbrev S2048 : Shape := ⟨1, ![2048]⟩
abbrev S1024x1024 : Shape := ⟨2, ![1024, 1024]⟩
abbrev S1024 : Shape := ⟨1, ![1024]⟩
abbrev S16x4x64 : Shape := ⟨3, ![16, 4, 64]⟩
abbrev S1024x2048 : Shape := ⟨2, ![1024, 2048]⟩
abbrev S1x2048x2048 : Shape := ⟨3, ![1, 2048, 2048]⟩
abbrev S1x1x2048 : Shape := ⟨3, ![1, 1, 2048]⟩
abbrev S1x1x1024 : Shape := ⟨3, ![1, 1, 1024]⟩
abbrev S1x2048x16x64 : Shape := ⟨4, ![1, 2048, 16, 64]⟩
abbrev S1x16x2048x64 : Shape := ⟨4, ![1, 16, 2048, 64]⟩
abbrev S16x4x1x2048 : Shape := ⟨4, ![16, 4, 1, 2048]⟩
abbrev S1x16x2048x4 : Shape := ⟨4, ![1, 16, 2048, 4]⟩
abbrev S1x16x2048x8 : Shape := ⟨4, ![1, 16, 2048, 8]⟩
abbrev S_ : Shape := ⟨0, ![]⟩
abbrev S1x16x2048 : Shape := ⟨3, ![1, 16, 2048]⟩
abbrev S1x16x2048x1 : Shape := ⟨4, ![1, 16, 2048, 1]⟩
abbrev S16x2048x1 : Shape := ⟨3, ![16, 2048, 1]⟩
abbrev S1 : Shape := ⟨1, ![1]⟩
abbrev S1x1x1 : Shape := ⟨3, ![1, 1, 1]⟩
abbrev S16x2048 : Shape := ⟨2, ![16, 2048]⟩
abbrev S1x16x2048x2048 : Shape := ⟨4, ![1, 16, 2048, 2048]⟩

abbrev nBuf : Space → Nat
  | .hbm => 164
  | .vmem => 0
  | .smem => 0
  | _ => 0

abbrev hbmTy0_0 (i : Nat) : BufTy := match i % 128 with
  | 0 => ⟨S1x2048x1024, .f32⟩
  | 1 => ⟨S2048x1024, .f32⟩
  | 2 => ⟨S2048, .f32⟩
  | 3 => ⟨S1024x1024, .f32⟩
  | 4 => ⟨S1024, .f32⟩
  | 5 => ⟨S1024x1024, .f32⟩
  | 6 => ⟨S1024, .f32⟩
  | 7 => ⟨S16x4x64, .f32⟩
  | 8 => ⟨S1024x2048, .f32⟩
  | 9 => ⟨S1x2048x2048, .f32⟩
  | 10 => ⟨S1x1x2048, .f32⟩
  | 11 => ⟨S1x2048x2048, .f32⟩
  | 12 => ⟨S1x2048x2048, .f32⟩
  | 13 => ⟨S1x2048x1024, .f32⟩
  | 14 => ⟨S1x2048x1024, .f32⟩
  | 15 => ⟨S1024x1024, .f32⟩
  | 16 => ⟨S1x2048x1024, .f32⟩
  | 17 => ⟨S1x1x1024, .f32⟩
  | 18 => ⟨S1x2048x1024, .f32⟩
  | 19 => ⟨S1x2048x1024, .f32⟩
  | 20 => ⟨S1x2048x16x64, .f32⟩
  | 21 => ⟨S1x16x2048x64, .f32⟩
  | 22 => ⟨S1x2048x16x64, .f32⟩
  | 23 => ⟨S1x16x2048x64, .f32⟩
  | 24 => ⟨S1x2048x16x64, .f32⟩
  | 25 => ⟨S1x16x2048x64, .f32⟩
  | 26 => ⟨S16x4x1x2048, .f32⟩
  | 27 => ⟨S1x16x2048x4, .f32⟩
  | 28 => ⟨S1x16x2048x4, .f32⟩
  | 29 => ⟨S1x16x2048x8, .f32⟩
  | 30 => ⟨S1x16x2048x8, .i32⟩
  | 31 => ⟨S_, .f32⟩
  | 32 => ⟨S_, .i32⟩
  | 33 => ⟨S1x16x2048, .f32⟩
  | 34 => ⟨S1x16x2048, .i32⟩
  | 35 => ⟨S1x16x2048, .i32⟩
  | 36 => ⟨S1x16x2048, .i32⟩
  | 37 => ⟨S1x16x2048, .i32⟩
  | 38 => ⟨S1x16x2048x1, .i32⟩
  | 39 => ⟨S_, .i32⟩
  | 40 => ⟨S1x16x2048x1, .i32⟩
  | 41 => ⟨S1x16x2048x1, .i1⟩
  | 42 => ⟨S_, .i32⟩
  | 43 => ⟨S1x16x2048x1, .i32⟩
  | 44 => ⟨S1x16x2048x1, .i32⟩
  | 45 => ⟨S1x16x2048x1, .i32⟩
  | 46 => ⟨S16x2048x1, .i32⟩
  | 47 => ⟨S1, .i32⟩
  | 48 => ⟨S_, .i32⟩
  | 49 => ⟨S16x2048x1, .i32⟩
  | 50 => ⟨S16x2048x1, .i1⟩
  | 51 => ⟨S1x1x1, .i32⟩
  | 52 => ⟨S16x2048x1, .i32⟩
  | 53 => ⟨S16x2048x1, .i1⟩
  | 54 => ⟨S16x2048x1, .i1⟩
  | 55 => ⟨S_, .i1⟩
  | 56 => ⟨S16x2048, .i1⟩
  | 57 => ⟨S1x16x2048x64, .f32⟩
  | 58 => ⟨S1x16x2048x64, .i1⟩
  | 59 => ⟨S_, .f32⟩
  | 60 => ⟨S1x16x2048x64, .f32⟩
  | 61 => ⟨S1x16x2048x64, .f32⟩
  | 62 => ⟨S1x16x2048x1, .i32⟩
  | 63 => ⟨S_, .i32⟩
  | 64 => ⟨S1x16x2048x1, .i32⟩
  | 65 => ⟨S1x16x2048x1, .i1⟩
  | 66 => ⟨S_, .i32⟩
  | 67 => ⟨S1x16x2048x1, .i32⟩
  | 68 => ⟨S1x16x2048x1, .i32⟩
  | 69 => ⟨S1x16x2048x1, .i32⟩
  | 70 => ⟨S16x2048x1, .i32⟩
  | 71 => ⟨S1, .i32⟩
  | 72 => ⟨S_, .i32⟩
  | 73 => ⟨S16x2048x1, .i32⟩
  | 74 => ⟨S16x2048x1, .i1⟩
  | 75 => ⟨S1x1x1, .i32⟩
  | 76 => ⟨S16x2048x1, .i32⟩
  | 77 => ⟨S16x2048x1, .i1⟩
  | 78 => ⟨S16x2048x1, .i1⟩
  | 79 => ⟨S_, .i1⟩
  | 80 => ⟨S16x2048, .i1⟩
  | 81 => ⟨S1x16x2048x64, .f32⟩
  | 82 => ⟨S1x16x2048x64, .i1⟩
  | 83 => ⟨S_, .f32⟩
  | 84 => ⟨S1x16x2048x64, .f32⟩
  | 85 => ⟨S1x16x2048x64, .f32⟩
  | 86 => ⟨S1x16x2048x1, .i32⟩
  | 87 => ⟨S_, .i32⟩
  | 88 => ⟨S1x16x2048x1, .i32⟩
  | 89 => ⟨S1x16x2048x1, .i1⟩
  | 90 => ⟨S_, .i32⟩
  | 91 => ⟨S1x16x2048x1, .i32⟩
  | 92 => ⟨S1x16x2048x1, .i32⟩
  | 93 => ⟨S1x16x2048x1, .i32⟩
  | 94 => ⟨S16x2048x1, .i32⟩
  | 95 => ⟨S1, .i32⟩
  | 96 => ⟨S_, .i32⟩
  | 97 => ⟨S16x2048x1, .i32⟩
  | 98 => ⟨S16x2048x1, .i1⟩
  | 99 => ⟨S1x1x1, .i32⟩
  | 100 => ⟨S16x2048x1, .i32⟩
  | 101 => ⟨S16x2048x1, .i1⟩
  | 102 => ⟨S16x2048x1, .i1⟩
  | 103 => ⟨S_, .i1⟩
  | 104 => ⟨S16x2048, .i1⟩
  | 105 => ⟨S1x16x2048x64, .f32⟩
  | 106 => ⟨S1x16x2048x64, .i1⟩
  | 107 => ⟨S_, .f32⟩
  | 108 => ⟨S1x16x2048x64, .f32⟩
  | 109 => ⟨S1x16x2048x64, .f32⟩
  | 110 => ⟨S1x16x2048x2048, .f32⟩
  | 111 => ⟨S_, .f32⟩
  | 112 => ⟨S1x16x2048x2048, .f32⟩
  | 113 => ⟨S1x16x2048x2048, .f32⟩
  | 114 => ⟨S_, .f32⟩
  | 115 => ⟨S1x16x2048, .f32⟩
  | 116 => ⟨S_, .f32⟩
  | 117 => ⟨S1x16x2048, .f32⟩
  | 118 => ⟨S1x16x2048, .f32⟩
  | 119 => ⟨S1x16x2048x1, .f32⟩
  | 120 => ⟨S1x16x2048x2048, .f32⟩
  | 121 => ⟨S1x16x2048x2048, .f32⟩
  | 122 => ⟨S1x16x2048x2048, .f32⟩
  | 123 => ⟨S_, .f32⟩
  | 124 => ⟨S1x16x2048, .f32⟩
  | 125 => ⟨S1x16x2048x1, .f32⟩
  | 126 => ⟨S1x16x2048x2048, .f32⟩
  | 127 => ⟨S1x16x2048x2048, .f32⟩
  | _ => ⟨S1x2048x1024, .f32⟩

abbrev hbmTy0_1 (i : Nat) : BufTy := match i % 128 with
  | 0 => ⟨S1x16x2048x64, .f32⟩
  | 1 => ⟨S1x16x2048, .i32⟩
  | 2 => ⟨S1x16x2048, .i32⟩
  | 3 => ⟨S1x16x2048, .i32⟩
  | 4 => ⟨S1x16x2048x1, .i32⟩
  | 5 => ⟨S_, .i32⟩
  | 6 => ⟨S1x16x2048x1, .i32⟩
  | 7 => ⟨S1x16x2048x1, .i1⟩
  | 8 => ⟨S_, .i32⟩
  | 9 => ⟨S1x16x2048x1, .i32⟩
  | 10 => ⟨S1x16x2048x1, .i32⟩
  | 11 => ⟨S1x16x2048x1, .i32⟩
  | 12 => ⟨S16x2048x1, .i32⟩
  | 13 => ⟨S1, .i32⟩
  | 14 => ⟨S_, .i32⟩
  | 15 => ⟨S16x2048x1, .i32⟩
  | 16 => ⟨S16x2048x1, .i1⟩
  | 17 => ⟨S1x1x1, .i32⟩
  | 18 => ⟨S16x2048x1, .i32⟩
  | 19 => ⟨S16x2048x1, .i1⟩
  | 20 => ⟨S16x2048x1, .i1⟩
  | 21 => ⟨S_, .i1⟩
  | 22 => ⟨S16x2048, .i1⟩
  | 23 => ⟨S1x16x2048x64, .f32⟩
  | 24 => ⟨S1x16x2048x64, .i1⟩
  | 25 => ⟨S_, .f32⟩
  | 26 => ⟨S1x16x2048x64, .f32⟩
  | 27 => ⟨S1x16x2048x64, .f32⟩
  | 28 => ⟨S1x2048x16x64, .f32⟩
  | 29 => ⟨S1x2048x1024, .f32⟩
  | 30 => ⟨S1024x1024, .f32⟩
  | 31 => ⟨S1x2048x1024, .f32⟩
  | 32 => ⟨S1x1x1024, .f32⟩
  | 33 => ⟨S1x2048x1024, .f32⟩
  | 34 => ⟨S1x2048x1024, .f32⟩
  | 35 => ⟨S2048x1024, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_cst : Ref sig .tc := ⟨.hbm, 31, rfl⟩
abbrev main_call0_c : Ref sig .tc := ⟨.hbm, 32, rfl⟩
abbrev main_call0_v1_0 : Ref sig .tc := ⟨.hbm, 33, rfl⟩
abbrev main_v22 : Ref sig .tc := ⟨.hbm, 34, rfl⟩
abbrev main_call1_v0 : Ref sig .tc := ⟨.hbm, 35, rfl⟩
abbrev main_call1_v1_0 : Ref sig .tc := ⟨.hbm, 36, rfl⟩
abbrev main_v23 : Ref sig .tc := ⟨.hbm, 37, rfl⟩
abbrev main_v24 : Ref sig .tc := ⟨.hbm, 38, rfl⟩
abbrev main_call2_c : Ref sig .tc := ⟨.hbm, 39, rfl⟩
abbrev main_call2_v0 : Ref sig .tc := ⟨.hbm, 40, rfl⟩
abbrev main_call2_v1 : Ref sig .tc := ⟨.hbm, 41, rfl⟩
abbrev main_call2_c_0 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_call2_v5 : Ref sig .tc := ⟨.hbm, 46, rfl⟩
abbrev main_call2_c_1 : Ref sig .tc := ⟨.hbm, 47, rfl⟩
abbrev main_call2_c_2 : Ref sig .tc := ⟨.hbm, 48, rfl⟩
abbrev main_call2_v6 : Ref sig .tc := ⟨.hbm, 49, rfl⟩
abbrev main_call2_v7 : Ref sig .tc := ⟨.hbm, 50, rfl⟩
abbrev main_call2_v8 : Ref sig .tc := ⟨.hbm, 51, rfl⟩
abbrev main_call2_v9 : Ref sig .tc := ⟨.hbm, 52, rfl⟩
abbrev main_call2_v10 : Ref sig .tc := ⟨.hbm, 53, rfl⟩
abbrev main_call2_v11 : Ref sig .tc := ⟨.hbm, 54, rfl⟩
abbrev main_call2_c_3 : Ref sig .tc := ⟨.hbm, 55, rfl⟩
abbrev main_call2_v12 : Ref sig .tc := ⟨.hbm, 56, rfl⟩
abbrev main_call2_v13 : Ref sig .tc := ⟨.hbm, 57, rfl⟩
abbrev main_call2_v14 : Ref sig .tc := ⟨.hbm, 58, rfl⟩
abbrev main_call2_cst : Ref sig .tc := ⟨.hbm, 59, rfl⟩
abbrev main_call2_v15 : Ref sig .tc := ⟨.hbm, 60, rfl⟩
abbrev main_v25 : Ref sig .tc := ⟨.hbm, 61, rfl⟩
abbrev main_v26 : Ref sig .tc := ⟨.hbm, 62, rfl⟩
abbrev main_call3_c : Ref sig .tc := ⟨.hbm, 63, rfl⟩
abbrev main_call3_v0 : Ref sig .tc := ⟨.hbm, 64, rfl⟩
abbrev main_call3_v1 : Ref sig .tc := ⟨.hbm, 65, rfl⟩
abbrev main_call3_c_0 : Ref sig .tc := ⟨.hbm, 66, rfl⟩
abbrev main_call3_v2 : Ref sig .tc := ⟨.hbm, 67, rfl⟩
abbrev main_call3_v3 : Ref sig .tc := ⟨.hbm, 68, rfl⟩
abbrev main_call3_v4 : Ref sig .tc := ⟨.hbm, 69, rfl⟩
abbrev main_call3_v5 : Ref sig .tc := ⟨.hbm, 70, rfl⟩
abbrev main_call3_c_1 : Ref sig .tc := ⟨.hbm, 71, rfl⟩
abbrev main_call3_c_2 : Ref sig .tc := ⟨.hbm, 72, rfl⟩
abbrev main_call3_v6 : Ref sig .tc := ⟨.hbm, 73, rfl⟩
abbrev main_call3_v7 : Ref sig .tc := ⟨.hbm, 74, rfl⟩
abbrev main_call3_v8 : Ref sig .tc := ⟨.hbm, 75, rfl⟩
abbrev main_call3_v9 : Ref sig .tc := ⟨.hbm, 76, rfl⟩
abbrev main_call3_v10 : Ref sig .tc := ⟨.hbm, 77, rfl⟩
abbrev main_call3_v11 : Ref sig .tc := ⟨.hbm, 78, rfl⟩
abbrev main_call3_c_3 : Ref sig .tc := ⟨.hbm, 79, rfl⟩
abbrev main_call3_v12 : Ref sig .tc := ⟨.hbm, 80, rfl⟩
abbrev main_call3_v13 : Ref sig .tc := ⟨.hbm, 81, rfl⟩
abbrev main_call3_v14 : Ref sig .tc := ⟨.hbm, 82, rfl⟩
abbrev main_call3_cst : Ref sig .tc := ⟨.hbm, 83, rfl⟩
abbrev main_call3_v15 : Ref sig .tc := ⟨.hbm, 84, rfl⟩
abbrev main_v27 : Ref sig .tc := ⟨.hbm, 85, rfl⟩
abbrev main_v28 : Ref sig .tc := ⟨.hbm, 86, rfl⟩
abbrev main_call4_c : Ref sig .tc := ⟨.hbm, 87, rfl⟩
abbrev main_call4_v0 : Ref sig .tc := ⟨.hbm, 88, rfl⟩
abbrev main_call4_v1 : Ref sig .tc := ⟨.hbm, 89, rfl⟩
abbrev main_call4_c_0 : Ref sig .tc := ⟨.hbm, 90, rfl⟩
abbrev main_call4_v2 : Ref sig .tc := ⟨.hbm, 91, rfl⟩
abbrev main_call4_v3 : Ref sig .tc := ⟨.hbm, 92, rfl⟩
abbrev main_call4_v4 : Ref sig .tc := ⟨.hbm, 93, rfl⟩
abbrev main_call4_v5 : Ref sig .tc := ⟨.hbm, 94, rfl⟩
abbrev main_call4_c_1 : Ref sig .tc := ⟨.hbm, 95, rfl⟩
abbrev main_call4_c_2 : Ref sig .tc := ⟨.hbm, 96, rfl⟩
abbrev main_call4_v6 : Ref sig .tc := ⟨.hbm, 97, rfl⟩
abbrev main_call4_v7 : Ref sig .tc := ⟨.hbm, 98, rfl⟩
abbrev main_call4_v8 : Ref sig .tc := ⟨.hbm, 99, rfl⟩
abbrev main_call4_v9 : Ref sig .tc := ⟨.hbm, 100, rfl⟩
abbrev main_call4_v10 : Ref sig .tc := ⟨.hbm, 101, rfl⟩
abbrev main_call4_v11 : Ref sig .tc := ⟨.hbm, 102, rfl⟩
abbrev main_call4_c_3 : Ref sig .tc := ⟨.hbm, 103, rfl⟩
abbrev main_call4_v12 : Ref sig .tc := ⟨.hbm, 104, rfl⟩
abbrev main_call4_v13 : Ref sig .tc := ⟨.hbm, 105, rfl⟩
abbrev main_call4_v14 : Ref sig .tc := ⟨.hbm, 106, rfl⟩
abbrev main_call4_cst : Ref sig .tc := ⟨.hbm, 107, rfl⟩
abbrev main_call4_v15 : Ref sig .tc := ⟨.hbm, 108, rfl⟩
abbrev main_v29 : Ref sig .tc := ⟨.hbm, 109, rfl⟩
abbrev main_v30 : Ref sig .tc := ⟨.hbm, 110, rfl⟩
abbrev main_cst : Ref sig .tc := ⟨.hbm, 111, rfl⟩
abbrev main_v31 : Ref sig .tc := ⟨.hbm, 112, rfl⟩
abbrev main_v32 : Ref sig .tc := ⟨.hbm, 113, rfl⟩
abbrev main_cst_0 : Ref sig .tc := ⟨.hbm, 114, rfl⟩
abbrev main_v33 : Ref sig .tc := ⟨.hbm, 115, rfl⟩
abbrev main_cst_1 : Ref sig .tc := ⟨.hbm, 116, rfl⟩
abbrev main_v34 : Ref sig .tc := ⟨.hbm, 117, rfl⟩
abbrev main_v35 : Ref sig .tc := ⟨.hbm, 118, rfl⟩
abbrev main_v36 : Ref sig .tc := ⟨.hbm, 119, rfl⟩
abbrev main_v37 : Ref sig .tc := ⟨.hbm, 120, rfl⟩
abbrev main_v38 : Ref sig .tc := ⟨.hbm, 121, rfl⟩
abbrev main_v39 : Ref sig .tc := ⟨.hbm, 122, rfl⟩
abbrev main_cst_2 : Ref sig .tc := ⟨.hbm, 123, rfl⟩
abbrev main_v40 : Ref sig .tc := ⟨.hbm, 124, rfl⟩
abbrev main_v41 : Ref sig .tc := ⟨.hbm, 125, rfl⟩
abbrev main_v42 : Ref sig .tc := ⟨.hbm, 126, rfl⟩
abbrev main_v43 : Ref sig .tc := ⟨.hbm, 127, rfl⟩
abbrev main_v44 : Ref sig .tc := ⟨.hbm, 128, rfl⟩
abbrev main_call5_v0 : Ref sig .tc := ⟨.hbm, 129, rfl⟩
abbrev main_call5_v1_0 : Ref sig .tc := ⟨.hbm, 130, rfl⟩
abbrev main_v45 : Ref sig .tc := ⟨.hbm, 131, rfl⟩
abbrev main_v46 : Ref sig .tc := ⟨.hbm, 132, rfl⟩
abbrev main_call6_c : Ref sig .tc := ⟨.hbm, 133, rfl⟩
abbrev main_call6_v0 : Ref sig .tc := ⟨.hbm, 134, rfl⟩
abbrev main_call6_v1 : Ref sig .tc := ⟨.hbm, 135, rfl⟩
abbrev main_call6_c_0 : Ref sig .tc := ⟨.hbm, 136, rfl⟩
abbrev main_call6_v2 : Ref sig .tc := ⟨.hbm, 137, rfl⟩
abbrev main_call6_v3 : Ref sig .tc := ⟨.hbm, 138, rfl⟩
abbrev main_call6_v4 : Ref sig .tc := ⟨.hbm, 139, rfl⟩
abbrev main_call6_v5 : Ref sig .tc := ⟨.hbm, 140, rfl⟩
abbrev main_call6_c_1 : Ref sig .tc := ⟨.hbm, 141, rfl⟩
abbrev main_call6_c_2 : Ref sig .tc := ⟨.hbm, 142, rfl⟩
abbrev main_call6_v6 : Ref sig .tc := ⟨.hbm, 143, rfl⟩
abbrev main_call6_v7 : Ref sig .tc := ⟨.hbm, 144, rfl⟩
abbrev main_call6_v8 : Ref sig .tc := ⟨.hbm, 145, rfl⟩
abbrev main_call6_v9 : Ref sig .tc := ⟨.hbm, 146, rfl⟩
abbrev main_call6_v10 : Ref sig .tc := ⟨.hbm, 147, rfl⟩
abbrev main_call6_v11 : Ref sig .tc := ⟨.hbm, 148, rfl⟩
abbrev main_call6_c_3 : Ref sig .tc := ⟨.hbm, 149, rfl⟩
abbrev main_call6_v12 : Ref sig .tc := ⟨.hbm, 150, rfl⟩
abbrev main_call6_v13 : Ref sig .tc := ⟨.hbm, 151, rfl⟩
abbrev main_call6_v14 : Ref sig .tc := ⟨.hbm, 152, rfl⟩
abbrev main_call6_cst : Ref sig .tc := ⟨.hbm, 153, rfl⟩
abbrev main_call6_v15 : Ref sig .tc := ⟨.hbm, 154, rfl⟩
abbrev main_v47 : Ref sig .tc := ⟨.hbm, 155, rfl⟩
abbrev main_v48 : Ref sig .tc := ⟨.hbm, 156, rfl⟩
abbrev main_v49 : Ref sig .tc := ⟨.hbm, 157, rfl⟩
abbrev main_v50 : Ref sig .tc := ⟨.hbm, 158, rfl⟩
abbrev main_v51 : Ref sig .tc := ⟨.hbm, 159, rfl⟩
abbrev main_v52 : Ref sig .tc := ⟨.hbm, 160, rfl⟩
abbrev main_v53 : Ref sig .tc := ⟨.hbm, 161, rfl⟩
abbrev main_v54 : Ref sig .tc := ⟨.hbm, 162, rfl⟩
abbrev main_v55 : Ref sig .tc := ⟨.hbm, 163, rfl⟩

abbrev nD : Nat := 1
abbrev τ : Topo := Topo.v7x

variable {F : FTy → Type} [FloatOps F]
-- ==== Proof.KBody.lean ====
module

public import proofs.«01_k».proof.Proof.Gen.KernelIdeal.Frame
public import proofs.«01_k».proof.Proof.Gen.KernelIdeal.Skeleton
public import Idealize.ShloMosaic.Lib.ValueIdxCore
public import Idealize.ShloMosaic.Lib.VecWindow
public import Idealize.ShloMosaic.Lib.WholeRead

@[expose] public section

set_option maxRecDepth 16384

noncomputable section

/-! What one run of the kernel's body does, in each of the three cases of its grid point: a projection point stores one
block of columns of the scratch; an attention point overwrites or increases the output block. -/

namespace Cert.Proof.K

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.ValueIdx (ix2)

variable {F : FTy → Type} [FloatOps F] [Named F]

local notation "𝕄" => MT nD τ sig Unit (Elt F) ℕ (UR sig nD τ) ℕ

/-- `d` is `ds` with the block of columns of point `i` replaced by `p`, and nothing said to the right of it. -/
def Stored (i : grid0.Coords) (p : Vec F S2048x512 .bf16) (ds d : Vec F S2048x3072 .bf16) : Prop :=
  (∀ (x : S2048x512.Idx) (y : S2048x3072.Idx), (y 0).val = (x 0).val → (y 1).val = 512 * (i 0).val + (x 1).val → d y = p x)
    ∧ ∀ y : S2048x3072.Idx, (y 1).val < 512 * (i 0).val → d y = ds y

/-- The box of `ds` with corner `o`, cut to the shape `s`. -/
abbrev boxOf (s : Shape) (o : Fin 2 → ℕ) (hs : s.rank = 2) (ds : Vec F S2048x3072 .bf16) : Vec F s .bf16 := fun x =>
  ds (ix2 ⟨(o 0 + (x ⟨0, by omega⟩).val) % 2048, Nat.mod_lt _ (by norm_num)⟩ ⟨(o 1 + (x ⟨1, by omega⟩).val) % 3072, Nat.mod_lt _ (by norm_num)⟩)

/-- A load of a whole memref reads its contents. -/
theorem load_whole {s : Shape} {e : EltTy} {m : Memref sig .tc .vmem s e} (h : m.IsWhole) (X : Vec F s e) {off : Fin s.rank → ℕ}
    (inb : ∀ a, off a + s.size a ≤ s.size a) : View.readAt (Elt F) m.view (Rect.unit off s.size inb).toLoadRect (h.unread X) = X :=
  (View.readAt_full _ _ inb).trans (h.read_unread X)

/-- A store of a whole memref leaves what was stored. -/
theorem store_whole {s : Shape} {e : EltTy} (m : Memref sig .tc .vmem s e) (f) (w : Vec F s e) {off : Fin s.rank → ℕ}
    (inb : ∀ a, off a + s.size a ≤ s.size a) :
    View.read (Elt F) m.view (m.view.writes (Elt F) f [⟨Rect.unit off s.size inb, w⟩]) = w := by
  funext y
  exact View.read_writes_cons_hit_of_coords _ _ (Rect.unit off s.size inb) _ _ y y fun a => by
    show (y a).val = off a + 1 * (y a).val
    have := inb a; omega

/-- A load of a box of the scratch reads that box of its contents. -/
theorem load_box {m : Memref sig .tc .vmem S2048x3072 .bf16} (h : m.IsWhole) (ds : Vec F S2048x3072 .bf16) {sz : Fin 2 → ℕ}
    (off : Fin 2 → ℕ) (inb : ∀ a, off a + sz a ≤ S2048x3072.size a) :
    View.readAt (Elt F) m.view (Rect.unit (s := S2048x3072) off sz inb).toLoadRect (h.unread ds) = boxOf ⟨2, sz⟩ off rfl ds := by
  funext x
  rw [h.readAt_unread]
  refine congrArg ds (funext fun a => Fin.ext ?_)
  have h0 : off 0 + sz 0 ≤ 2048 := inb 0
  have h1 : off 1 + sz 1 ≤ 3072 := inb 1
  have x0 : (x 0).val < sz 0 := (x 0).isLt
  have x1 : (x 1).val < sz 1 := (x 1).isLt
  match a with
  | ⟨0, _⟩ =>
    show off 0 + 1 * (x 0).val = (off 0 + (x 0).val) % 2048
    rw [Nat.mod_eq_of_lt (by omega)]; omega
  | ⟨1, _⟩ =>
    show off 1 + 1 * (x 1).val = (off 1 + (x 1).val) % 3072
    rw [Nat.mod_eq_of_lt (by omega)]; omega

/-- Storing `p` at the columns of point `i` of a scratch that held `ds`. -/
theorem stored_of (i : grid0.Coords) {m : Memref sig .tc .vmem S2048x3072 .bf16} (h : m.IsWhole) (ds : Vec F S2048x3072 .bf16)
    (p' p : Vec F S2048x512 .bf16) (hp : p' = p) (inb : ∀ a, k0_off1 i a + S2048x512.size a ≤ S2048x3072.size a) :
    Stored i p ds (View.read (Elt F) m.view (m.view.writes (Elt F) (h.unread ds)
      [⟨Rect.unit (s := S2048x3072) (k0_off1 i) S2048x512.size inb, p'⟩])) := by
  subst hp
  have ho0 : k0_off1 i 0 = 0 := by rw [k0_off1_eq]; rfl
  have ho1 : k0_off1 i 1 = 512 * (i 0).val := by rw [k0_off1_eq]; rfl
  constructor
  · intro x y h0 h1
    refine View.read_writes_cons_hit_of_coords _ _ (Rect.unit (s := S2048x3072) (k0_off1 i) S2048x512.size inb) _ _ x y fun a => ?_
    match a with
    | ⟨0, _⟩ => show (y 0).val = k0_off1 i 0 + 1 * (x 0).val; omega
    | ⟨1, _⟩ => show (y 1).val = k0_off1 i 1 + 1 * (x 1).val; omega
  · intro y hy
    rw [View.read_writes_cons_miss_of_axis _ _ _ _ y 1 (512 * (i 0).val) 512 ho1 rfl rfl (.inl hy)]
    exact congrFun (h.read_unread ds) y

set_option maxHeartbeats 1000000 in
/-- A projection point stores its block of columns of the scratch and leaves the output block. -/
theorem body_project (c : Dev nD) (i : grid0.Coords) (arg1 : Memref sig .tc .vmem S2048x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1x1x512 .f32) (harg4 : arg4.IsWhole) (arg5 : Memref sig .tc .vmem S1024x128 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S2048x3072 .bf16) (harg8 : arg8.IsWhole)
    (hc0 : k0_cond1 i = 1#1) (hc1 : ¬k0_cond2 i = 1#1) (x0 : Vec F S2048x1024 .f32) (x1 : Vec F S512x1024 .f32) (x2 : Vec F S512x1024 .f32) (x3 : Vec F S1x1x512 .f32) (x4 : Vec F S1024x128 .f32) (x5 : Vec F S1x1024 .f32) (y : Vec F S1024x1024 .f32) (ds : Vec F S2048x3072 .bf16) (E : Set ℕ) (R : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y ∗ owns (c : Thread nD τ) arg8 fullShare ds
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y ∗ (∃ d, ⌜Stored i (k0_pay1 i x0 x1 x2 x3) ds d⌝ ∗ owns (c : Thread nD τ) arg8 fullShare d)) -∗ R ⟨⟩))
      ⊢ wp frame (wpE (defs₀ (F := F)) Variants.none c none) E (cc0__fused_kernel i arg1 harg1 arg2 harg2 arg3 harg3 arg4 harg4 arg5 harg5 arg6 harg6 arg7 harg7 arg8 harg8) R := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  iexists _; isplitr; swap
  · iexists _; isplitr; swap; · iexact H7
    ipureintro; rfl
  ipureintro
  refine stored_of i harg8 ds _ _ ?_ _
  exact congr (congr (congr (congrArg (k0_pay1 i) (load_whole harg1 x0 _)) (load_whole harg2 x1 _)) (load_whole harg3 x2 _)) (load_whole harg4 x3 _)

set_option maxHeartbeats 1000000 in
/-- The first attention point of an output block overwrites it: its contribution and the bias. -/
theorem body_first (c : Dev nD) (i : grid0.Coords) (arg1 : Memref sig .tc .vmem S2048x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1x1x512 .f32) (harg4 : arg4.IsWhole) (arg5 : Memref sig .tc .vmem S1024x128 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S2048x3072 .bf16) (harg8 : arg8.IsWhole)
    (hc0 : ¬k0_cond1 i = 1#1) (hc1 : k0_cond2 i = 1#1) (hc2 : k0_cond3 i = 1#1) (hc3 : ¬k0_cond4 i = 1#1) (x0 : Vec F S2048x1024 .f32) (x1 : Vec F S512x1024 .f32) (x2 : Vec F S512x1024 .f32) (x3 : Vec F S1x1x512 .f32) (x4 : Vec F S1024x128 .f32) (x5 : Vec F S1x1024 .f32) (y : Vec F S1024x1024 .f32) (ds : Vec F S2048x3072 .bf16) (E : Set ℕ) (R : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y ∗ owns (c : Thread nD τ) arg8 fullShare ds
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k0_pay4 (k0_pay2 x4) (boxOf S1024x128 (k0_off2 i) rfl ds) (boxOf S2048x128 (k0_off3 i 1024#32) rfl ds) (boxOf S2048x128 (k0_off3 i 2048#32) rfl ds) x5)
          ∗ owns (c : Thread nD τ) arg8 fullShare ds) -∗ R ⟨⟩))
      ⊢ wp frame (wpE (defs₀ (F := F)) Variants.none c none) E (cc0__fused_kernel i arg1 harg1 arg2 harg2 arg3 harg3 arg4 harg4 arg5 harg5 arg6 harg6 arg7 harg7 arg8 harg8) R := by
  simp only [cc0__fused_kernel_eq_skeleton]; unfold cc0__fused_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  sl_exec (disch := first | sl_exact hc0 | sl_exact hc1 | sl_exact hc2 | sl_exact hc3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro
    rw [store_whole arg7, load_whole harg6 x5, load_box harg8 ds]
    unfold body_first.sl.r body_first.sl.r_1 body_first.sl.r_2
    rw [load_whole harg5 x4, load_box harg8 ds, load_box harg8 ds]
  iexists _; isplitr; · ipureintro; exact harg8.read_unread _
  iexact H7

set_option maxHeartbeats 1000000 in
/-- Every other attention point adds its contribution to the output block. -/
theorem body_next (c : Dev nD) (i : grid0.Coords) (arg1 : Memref sig .tc .vmem S2048x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1x1x512 .f32) (harg4 : arg4.IsWhole) (arg5 : Memref sig .tc .vmem S1024x128 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S2048x3072 .bf16) (harg8 : arg8.IsWhole)
    (hc0 : ¬k0_cond1 i = 1#1) (hc1 : k0_cond2 i = 1#1) (hc2 : ¬k0_cond3 i = 1#1) (hc3 : k0_cond4 i = 1#1) (x0 : Vec F S2048x1024 .f32) (x1 : Vec F S512x1024 .f32) (x2 : Vec F S512x1024 .f32) (x3 : Vec F S1x1x512 .f32) (x4 : Vec F S1024x128 .f32) (x5 : Vec F S1x1024 .f32) (y : Vec F S1024x1024 .f32) (ds : Vec F S2048x3072 .bf16) (E : Set ℕ) (R : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y ∗ owns (c : Thread nD τ) arg8 fullShare ds
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k0_pay5 (k0_pay2 x4) (boxOf S1024x128 (k0_off2 i) rfl ds) (boxOf S2048x128 (k0_off3 i 1024#32) rfl ds) (boxOf S2048x128 (k0_off3 i 2048#32) rfl ds) y)
          ∗ owns (c : Thread nD τ) arg8 fullShare ds) -∗ R ⟨⟩))
      ⊢ wp frame (wpE (defs₀ (F := F)) Variants.none c none) E (cc0__fused_kernel i arg1 harg1 arg2 harg2 arg3 harg3 arg4 harg4 arg5 harg5 arg6 harg6 arg7 harg7 arg8 harg8) R := by
  simp only [cc0__fused_kernel_eq_skeleton]; unfold cc0__fused_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  sl_exec (disch := first | sl_exact hc0 | sl_exact hc1 | sl_exact hc2 | sl_exact hc3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro
    rw [store_whole arg7, load_whole harg7 y, load_box harg8 ds]
    unfold body_next.sl.r body_next.sl.r_1 body_next.sl.r_2
    rw [load_whole harg5 x4, load_box harg8 ds, load_box harg8 ds]
  iexists _; isplitr; · ipureintro; exact harg8.read_unread _
  iexact H7

end Cert.Proof.K

end
-- ==== Proof.KRun.lean ====
module

public import proofs.«01_k».proof.Proof.KBody
public import Idealize.ShloMosaic.Lib.Claim

@[expose] public section

set_option maxRecDepth 16384

noncomputable section

/-! The kernel's run: what the scratch and the output block hold at every grid point, and the frame run they give. -/

namespace Cert.Proof.K

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Pipeline (Dat Cfg Window BodyObligation cellOf)
open Idealize.ShloMosaic.ValueIdx (ix2)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Closed forms over the grid -/

/-- The grid point `n`. -/
def pt (n : ℕ) : Fin cfg0.N := ⟨n % 22, lt_of_lt_of_eq (Nat.mod_lt _ (by norm_num)) N_0.symm⟩

theorem pt_val (t : Fin cfg0.N) : pt t.val = t :=
  Fin.ext (Nat.mod_eq_of_lt (lt_of_lt_of_eq t.isLt N_0))

theorem coords_val : ∀ t : Fin cfg0.N, (grid0.coords t 0).val = t.val :=
  (by decide +kernel : ∀ t : Fin grid0.N, (grid0.coords t 0).val = t.val)
theorem cond1_iff : ∀ t : Fin cfg0.N, k0_cond1 (grid0.coords t) = 1#1 ↔ t.val < 6 :=
  (by decide +kernel : ∀ t : Fin grid0.N, k0_cond1 (grid0.coords t) = 1#1 ↔ t.val < 6)
theorem cond2_iff : ∀ t : Fin cfg0.N, k0_cond2 (grid0.coords t) = 1#1 ↔ 6 ≤ t.val :=
  (by decide +kernel : ∀ t : Fin grid0.N, k0_cond2 (grid0.coords t) = 1#1 ↔ 6 ≤ t.val)
theorem cond3_iff : ∀ t : Fin cfg0.N, k0_cond3 (grid0.coords t) = 1#1 ↔ t.val % 8 = 6 :=
  (by decide +kernel : ∀ t : Fin grid0.N, k0_cond3 (grid0.coords t) = 1#1 ↔ t.val % 8 = 6)
theorem cond4_iff : ∀ t : Fin cfg0.N, k0_cond4 (grid0.coords t) = 1#1 ↔ ¬(t.val = 6 ∨ t.val = 14) :=
  (by decide +kernel : ∀ t : Fin grid0.N, k0_cond4 (grid0.coords t) = 1#1 ↔ ¬(t.val = 6 ∨ t.val = 14))
theorem flush6_iff : ∀ t : Fin cfg0.N, (cfg0.win 6).flush t = true ↔ t.val = 13 ∨ t.val = 21 :=
  (by decide +kernel : ∀ t : Fin grid0.N, win0_6.flush t = true ↔ t.val = 13 ∨ t.val = 21)
theorem idle6_iff : ∀ t : Fin cfg0.N, cfg0.idle 6 (grid0.coords t) = true ↔ t.val < 6 :=
  (by decide +kernel : ∀ t : Fin grid0.N, idle0 6 (grid0.coords t) = true ↔ t.val < 6)

/-! ## What the buffers hold -/

/-- The block of columns that projection point `n` computes. -/
def projBlock (c : Dev nD) (n : ℕ) : Vec F S2048x512 .bf16 :=
  k0_pay1 (grid0.coords (pt n)) (iblk m c 0 (pt n)) (iblk m c 1 (pt n)) (iblk m c 2 (pt n)) (iblk m c 3 (pt n))

/-- The whole scratch after the six projection points. -/
def qkv (c : Dev nD) : Vec F S2048x3072 .bf16 := fun y =>
  projBlock m c ((y 1).val / 512) (ix2 (y 0) ⟨(y 1).val % 512, Nat.mod_lt _ (by norm_num)⟩)

/-- The boxes of queries, keys and values that point `t` reads, of a scratch holding `ds`. -/
abbrev qBox (t : Fin cfg0.N) (ds : Vec F S2048x3072 .bf16) : Vec F S1024x128 .bf16 := boxOf S1024x128 (k0_off2 (grid0.coords t)) rfl ds
abbrev kBox (t : Fin cfg0.N) (ds : Vec F S2048x3072 .bf16) : Vec F S2048x128 .bf16 := boxOf S2048x128 (k0_off3 (grid0.coords t) 1024#32) rfl ds
abbrev vBox (t : Fin cfg0.N) (ds : Vec F S2048x3072 .bf16) : Vec F S2048x128 .bf16 := boxOf S2048x128 (k0_off3 (grid0.coords t) 2048#32) rfl ds

/-- What the first point of an output block leaves in it, -/
def firstOut (c : Dev nD) (t : Fin cfg0.N) : Vec F S1024x1024 .f32 :=
  k0_pay4 (k0_pay2 (iblk m c 4 t)) (qBox t (qkv m c)) (kBox t (qkv m c)) (vBox t (qkv m c)) (iblk m c 5 t)

/-- and what any other leaves of `y`. -/
def nextOut (c : Dev nD) (t : Fin cfg0.N) (y : Vec F S1024x1024 .f32) : Vec F S1024x1024 .f32 :=
  k0_pay5 (k0_pay2 (iblk m c 4 t)) (qBox t (qkv m c)) (kBox t (qkv m c)) (vBox t (qkv m c)) y

/-- The output block of row block `q` after its points `0, …, k`. -/
def outSum (c : Dev nD) (q : ℕ) : ℕ → Vec F S1024x1024 .f32
  | 0 => firstOut m c (pt (6 + 8 * q))
  | k + 1 => nextOut m c (pt (6 + 8 * q + (k + 1))) (outSum c q k)

/-- The scratch operand. -/
abbrev scr : Memref sig .tc .vmem S2048x3072 .bf16 := Memref.whole cc0_scratch0

/-- The scratch's columns below those of point `n` hold the projections. -/
def Known (c : Dev nD) (n : ℕ) (d : Vec F S2048x3072 .bf16) : Prop :=
  ∀ y : S2048x3072.Idx, (y 1).val < 512 * n → d y = qkv m c y

theorem Known.step {c : Dev nD} {t : Fin cfg0.N} {ds d : Vec F S2048x3072 .bf16} (h : Known m c t.val ds)
    (hs : Stored (grid0.coords t) (k0_pay1 (grid0.coords t) (iblk m c 0 t) (iblk m c 1 t) (iblk m c 2 t) (iblk m c 3 t)) ds d) :
    Known m c (t.val + 1) d := by
  intro y hy
  have hc := coords_val t
  by_cases h0 : (y 1).val < 512 * t.val
  · rw [hs.2 y (by rw [hc]; exact h0)]
    exact h y h0
  · have hq : (y 1).val / 512 = t.val := by omega
    rw [hs.1 (ix2 (y 0) ⟨(y 1).val % 512, Nat.mod_lt _ (by norm_num)⟩) y rfl (by
      rw [hc]; show (y 1).val = 512 * t.val + (y 1).val % 512; omega)]
    show _ = projBlock m c ((y 1).val / 512) _
    rw [hq]
    unfold projBlock
    rw [pt_val]

theorem Known.full {c : Dev nD} {n : ℕ} (hn : 6 ≤ n) {d : Vec F S2048x3072 .bf16} (h : Known m c n d) : d = qkv m c :=
  funext fun y => h y (by have : (y 1).val < 3072 := (y 1).isLt; omega)

theorem known_qkv (c : Dev nD) (n : ℕ) : Known m c n (qkv m c) := fun _ _ => rfl

/-! ## The proof data -/

/-- The proof data: the arrays as the region finds them, the input blocks, the running sums of the output block, and
the scratch's projected columns. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outSum m c ((t.val - 6) / 8) ((t.val - 6) % 8)
  Φ t := iprop((∃ d, ⌜Known m c t.val d⌝ ∗ owns (c : Thread nD τ) scr fullShare d) ∗ (∃ r, prngReg c r))
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outSum m c ((t.val - 6) / 8) ((t.val - 6) % 8) := by
  dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem leaves_0 (c : Dev nD) (t : Fin cfg0.N) :
    (dats m 0 c).leavesExact 0 t = owns (c : Thread nD τ) (win0_0.stage (cfg0.slots t 0)) fullShare (iblk m c 0 t) := by
  unfold Dat.leavesExact; rw [show cfg0.idle 0 (grid0.coords t) = false from rfl, after_0]
theorem leaves_1 (c : Dev nD) (t : Fin cfg0.N) :
    (dats m 0 c).leavesExact 1 t = owns (c : Thread nD τ) (win0_1.stage (cfg0.slots t 1)) fullShare (iblk m c 1 t) := by
  unfold Dat.leavesExact; rw [show cfg0.idle 1 (grid0.coords t) = false from rfl, after_1]
theorem leaves_2 (c : Dev nD) (t : Fin cfg0.N) :
    (dats m 0 c).leavesExact 2 t = owns (c : Thread nD τ) (win0_2.stage (cfg0.slots t 2)) fullShare (iblk m c 2 t) := by
  unfold Dat.leavesExact; rw [show cfg0.idle 2 (grid0.coords t) = false from rfl, after_2]
theorem leaves_3 (c : Dev nD) (t : Fin cfg0.N) :
    (dats m 0 c).leavesExact 3 t = owns (c : Thread nD τ) (win0_3.stage (cfg0.slots t 3)) fullShare (iblk m c 3 t) := by
  unfold Dat.leavesExact; rw [show cfg0.idle 3 (grid0.coords t) = false from rfl, after_3]
theorem leaves_4 (c : Dev nD) (t : Fin cfg0.N) :
    (dats m 0 c).leavesExact 4 t = owns (c : Thread nD τ) (win0_4.stage (cfg0.slots t 4)) fullShare (iblk m c 4 t) := by
  unfold Dat.leavesExact; rw [show cfg0.idle 4 (grid0.coords t) = false from rfl, after_4]
theorem leaves_5 (c : Dev nD) (t : Fin cfg0.N) :
    (dats m 0 c).leavesExact 5 t = owns (c : Thread nD τ) (win0_5.stage (cfg0.slots t 5)) fullShare (iblk m c 5 t) := by
  unfold Dat.leavesExact; rw [show cfg0.idle 5 (grid0.coords t) = false from rfl, after_5]

/-- At a point that adds to an output block, the block holds what the point before left. -/
theorem before_6 (c : Dev nD) (t : Fin cfg0.N) (h6 : 6 ≤ t.val) (h : ¬(t.val = 6 ∨ t.val = 14)) (d) :
    (dats m 0 c).before 6 t d = outSum m c ((t.val - 6) / 8) ((t.val - 6) % 8 - 1) := by
  have hN : t.val < 22 := lt_of_lt_of_eq t.isLt N_0
  have hfl : (cfg0.win 6).flush ⟨t.val - 1, Nat.lt_of_le_of_lt (Nat.sub_le _ _) t.isLt⟩ = false := by
    rw [Bool.eq_false_iff]; intro hc
    have hc' : t.val - 1 = 13 ∨ t.val - 1 = 21 := (flush6_iff _).mp hc
    omega
  have hid : cfg0.idle 6 (cfg0.grid.coords ⟨t.val - 1, Nat.lt_of_le_of_lt (Nat.sub_le _ _) t.isLt⟩) = false := by
    rw [Bool.eq_false_iff]; intro hc
    have hc' : t.val - 1 < 6 := (idle6_iff _).mp hc
    omega
  rw [(dats m 0 c).before_of_pos 6 t (by omega) ((cfg0.win 6).fetch_out rfl t), hfl, if_neg Bool.false_ne_true]
  unfold Dat.left
  rw [hid]
  show (dats m 0 c).kept 6 _ d = _
  have hk : (dats m 0 c).kept 6 ⟨t.val - 1, Nat.lt_of_le_of_lt (Nat.sub_le _ _) t.isLt⟩ d
      = (dats m 0 c).after 6 ⟨t.val - 1, Nat.lt_of_le_of_lt (Nat.sub_le _ _) t.isLt⟩ := rfl
  rw [hk, after_6]
  have e1 : (t.val - 1 - 6) / 8 = (t.val - 6) / 8 := by omega
  have e2 : (t.val - 1 - 6) % 8 = (t.val - 6) % 8 - 1 := by omega
  show outSum m c ((t.val - 1 - 6) / 8) ((t.val - 1 - 6) % 8) = _
  rw [e1, e2]

/-- The sum at the first point of an output block, -/
theorem outSum_first (c : Dev nD) (t : Fin cfg0.N) (h : t.val = 6 ∨ t.val = 14) :
    outSum m c ((t.val - 6) / 8) ((t.val - 6) % 8) = firstOut m c t := by
  have e2 : (t.val - 6) % 8 = 0 := by omega
  have e3 : 6 + 8 * ((t.val - 6) / 8) = t.val := by omega
  rw [e2]
  show firstOut m c (pt (6 + 8 * ((t.val - 6) / 8))) = _
  rw [e3, pt_val]

/-- and at any other. -/
theorem outSum_next (c : Dev nD) (t : Fin cfg0.N) (h6 : 6 ≤ t.val) (h : ¬(t.val = 6 ∨ t.val = 14)) :
    outSum m c ((t.val - 6) / 8) ((t.val - 6) % 8) = nextOut m c t (outSum m c ((t.val - 6) / 8) ((t.val - 6) % 8 - 1)) := by
  have hN : t.val < 22 := lt_of_lt_of_eq t.isLt N_0
  obtain ⟨k, hk⟩ : ∃ k, (t.val - 6) % 8 = k + 1 := ⟨(t.val - 6) % 8 - 1, by omega⟩
  have e3 : 6 + 8 * ((t.val - 6) / 8) + (k + 1) = t.val := by omega
  rw [hk, Nat.add_sub_cancel]
  show nextOut m c (pt (6 + 8 * ((t.val - 6) / 8) + (k + 1))) _ = _
  rw [e3, pt_val]

theorem leaves_6 (c : Dev nD) (t : Fin cfg0.N) (h6 : 6 ≤ t.val) :
    (dats m 0 c).leavesExact 6 t
      = owns (c : Thread nD τ) (win0_6.stage (cfg0.slots t 6)) fullShare (outSum m c ((t.val - 6) / 8) ((t.val - 6) % 8)) := by
  have hid : cfg0.idle 6 (cfg0.grid.coords t) = false := by
    rw [Bool.eq_false_iff]; intro hc
    have hc' : t.val < 6 := (idle6_iff _).mp hc
    omega
  unfold Dat.leavesExact; rw [hid, after_6]

theorem leaves_6_idle (c : Dev nD) (t : Fin cfg0.N) (h6 : t.val < 6) :
    (dats m 0 c).leavesExact 6 t
      = iprop(∃ d, owns (c : Thread nD τ) (win0_6.stage (cfg0.slots t 6)) fullShare ((dats m 0 c).before 6 t d)) := by
  refine (dats m 0 c).leavesExact_idle 6 t ((idle6_iff t).mpr h6) ?_
  rw [Bool.eq_false_iff]; intro hc
  have := (flush6_iff t).mp hc
  omega

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 2400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, leaves_0, leaves_1, leaves_2, leaves_3, leaves_4, leaves_5]
  rw [show (dats m 0 c).owesAt () t.succ = (dats m 0 c).owesAt () t.castSucc from rfl,
    show (dats m 0 c).Φ t.succ = iprop((∃ d, ⌜Known m c (t.val + 1) d⌝ ∗ owns (c : Thread nD τ) scr fullShare d) ∗ (∃ r, prngReg c r)) from rfl,
    show (dats m 0 c).Φ t.castSucc = iprop((∃ d, ⌜Known m c t.val d⌝ ∗ owns (c : Thread nD τ) scr fullShare d) ∗ (∃ r, prngReg c r)) from rfl]
  have hN : t.val < 22 := lt_of_lt_of_eq t.isLt N_0
  by_cases h0 : t.val < 6
  · rw [leaves_6_idle m c t h0]
    iintro ⟨⟨⟨%ds, %hds, HS⟩, Hg⟩, Ho, ⟨%d0, H0⟩, ⟨%d1, H1⟩, ⟨%d2, H2⟩, ⟨%d3, H3⟩, ⟨%d4, H4⟩, ⟨%d5, H5⟩, ⟨%d6, H6⟩⟩
    iapply (body_project c (grid0.coords t) _ _ _ _ _ _ _ _ _ _ _ _ _ _ _ _ ((cond1_iff t).mpr h0) (fun h => absurd ((cond2_iff t).mp h) (by omega))
      (iblk m c 0 t) (iblk m c 1 t) (iblk m c 2 t) (iblk m c 3 t) (iblk m c 4 t) (iblk m c 5 t) ((dats m 0 c).before 6 t d6) ds Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, ⟨%d, %hd, HS⟩⟩
    isplitl [HS Hg]
    · isplitl [HS]
      · iexists d
        isplitr
        · ipureintro; exact hds.step m hd
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists d6
    iexact H6
  · have h6 : 6 ≤ t.val := by omega
    rw [leaves_6 m c t h6]
    by_cases h1 : t.val = 6 ∨ t.val = 14
    · rw [outSum_first m c t h1]
      iintro ⟨⟨⟨%ds, %hds, HS⟩, Hg⟩, Ho, ⟨%d0, H0⟩, ⟨%d1, H1⟩, ⟨%d2, H2⟩, ⟨%d3, H3⟩, ⟨%d4, H4⟩, ⟨%d5, H5⟩, ⟨%d6, H6⟩⟩
      obtain rfl := hds.full m h6
      iapply (body_first c (grid0.coords t) _ _ _ _ _ _ _ _ _ _ _ _ _ _ _ _ (fun h => h0 ((cond1_iff t).mp h)) ((cond2_iff t).mpr h6)
        ((cond3_iff t).mpr (by omega)) (fun h => (cond4_iff t).mp h h1)
        (iblk m c 0 t) (iblk m c 1 t) (iblk m c 2 t) (iblk m c 3 t) (iblk m c 4 t) (iblk m c 5 t) ((dats m 0 c).before 6 t d6) (qkv m c) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS Hg]
      · isplitl [HS]
        · iexists _
          isplitr; swap
          · iexact HS
          ipureintro; exact known_qkv m c _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · simp only [before_6 m c t h6 h1]
      rw [outSum_next m c t h6 h1]
      iintro ⟨⟨⟨%ds, %hds, HS⟩, Hg⟩, Ho, ⟨%d0, H0⟩, ⟨%d1, H1⟩, ⟨%d2, H2⟩, ⟨%d3, H3⟩, ⟨%d4, H4⟩, ⟨%d5, H5⟩, ⟨%d6, H6⟩⟩
      obtain rfl := hds.full m h6
      iapply (body_next c (grid0.coords t) _ _ _ _ _ _ _ _ _ _ _ _ _ _ _ _ (fun h => h0 ((cond1_iff t).mp h)) ((cond2_iff t).mpr h6)
        (fun h => absurd ((cond3_iff t).mp h) (by omega)) ((cond4_iff t).mpr h1)
        (iblk m c 0 t) (iblk m c 1 t) (iblk m c 2 t) (iblk m c 3 t) (iblk m c 4 t) (iblk m c 5 t) (outSum m c ((t.val - 6) / 8) ((t.val - 6) % 8 - 1)) (qkv m c) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS Hg]
      · isplitl [HS]
        · iexists _
          isplitr; swap
          · iexact HS
          ipureintro; exact known_qkv m c _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The body table's row at point `t` is the body. -/
theorem defs₀_row (t : Fin cfg0.N) : defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- The invariant the region starts from, and ends with: the scratch at some contents, and the generator register. -/
theorem scoped_eq (c : Dev nD) : (Pipeline.ΦA spec0 c : sProp 𝕄)
    = iprop(iprop((∃ d, owns (c : Thread nD τ) scr fullShare d)) ∗ (∃ r, prngReg c r)) := by
  unfold Pipeline.ΦA; rw [scopedRest0_eq]; simp only [scr, owns_whole]; try rfl

theorem scoped_in (c : Dev nD) : (Pipeline.ΦA spec0 c : sProp 𝕄) ⊢ (dats m 0 c).Φ 0 := by
  rw [scoped_eq]
  show _ ⊢ iprop((∃ d, ⌜Known m c 0 d⌝ ∗ owns (c : Thread nD τ) scr fullShare d) ∗ (∃ r, prngReg c r))
  iintro ⟨⟨%d, HS⟩, Hg⟩
  isplitl [HS]
  · iexists d
    isplitr
    · ipureintro; exact fun y hy => absurd hy (by omega)
    iexact HS
  iexact Hg

theorem scoped_out (c : Dev nD) : (dats m 0 c).Φ (Fin.last cfg0.N) ⊢ (Pipeline.ΦA spec0 c : sProp 𝕄) := by
  rw [scoped_eq]
  show iprop((∃ d, ⌜Known m c cfg0.N d⌝ ∗ owns (c : Thread nD τ) scr fullShare d) ∗ (∃ r, prngReg c r)) ⊢ _
  iintro ⟨⟨%d, -, HS⟩, Hg⟩
  isplitl [HS]
  · iexists d; iexact HS
  iexact Hg

set_option backward.isDefEq.respectTransparency.types false in
/-- The kernel's frame run: it terminates, the arrays end as the proof data says, every counter at zero. -/
theorem run_frame : θ_run defs (onTc (τ := τ) (main (F := F))) (s₀ m ρ)
    (fun r => Pipeline.FramePost cfgs (dats m) 0 (V m) r ∧ r.2.sem = fun _ => 0) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := scoped_in m) (hout := scoped_out m) (Q' := _)

/-- The kernel keeps its arguments and leaves every semaphore counter at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) ((θ_run defs _ _).mono (fun _ h => h.1) (run_frame m ρ)))
    ((θ_run defs _ _).mono (fun _ h => h.2) (run_frame m ρ))

end Cert.Proof.K

end
-- ==== Proof.BitsFrame.lean ====
module

public import proofs.«01_k».proof.Defs
public import proofs.«01_k».proof.Proof.Gen.Kernel
public import proofs.«01_k».proof.Proof.KRun

@[expose] public section

set_option maxRecDepth 16384

noncomputable section

/-! The frame of the program as printed. It is the idealized program with the named constant read as its own word, so
the run proved of that program, at any float type with a reading of the name, is a run of this one. -/

namespace Cert.Proof

open Idealize.ShloMosaic

/-- The machine's reading of a named constant: the word it stands for. -/
local instance : Named Bits where
  named _ _ {φ} bits := Scalar.ofBits φ bits

/-- The body of the one launch is the idealized program's. -/
theorem body_eq : @Cert.Kernel.cc0__fused_kernel Bits _ Cert.Kernel.Gen.facts
    = @Cert.KernelIdeal.cc0__fused_kernel Bits _ _ Cert.KernelIdeal.Gen.facts := rfl

theorem bodies_eq : Cert.Kernel.defs₀ (F := Bits) = Cert.KernelIdeal.defs₀ (F := Bits) := by
  unfold Cert.Kernel.defs₀ Cert.KernelIdeal.defs₀
  refine congrArg Defs.onTc ?_
  funext a b
  match a, b with
  | 0, (t, s) => rfl
  | ⟨n + 1, h⟩, _ => exact absurd h (Nat.not_lt.2 (Nat.le_add_left _ _))

theorem defs_eq : Cert.Kernel.defs (F := Bits) = Cert.KernelIdeal.defs (F := Bits) :=
  congrArg (Pipeline.defs (Cert.Kernel.pcfgs (F := Bits))) bodies_eq

theorem bitsFrame : Cert.quiescent_Kernel := by
  intro m ρ _
  rw [defs_eq]
  exact K.frame (F := Bits) m ρ

end Cert.Proof

end
-- ==== Proof.RefStages.lean ====
module

public import proofs.«01_k».proof.Defs
public import proofs.«01_k».proof.Proof.Gen.ReferenceIdeal
public import Idealize.ShloMosaic.Lib.Claim

@[expose] public section

set_option maxRecDepth 16384

noncomputable section

/-! The reference, cut into its stages: each stage is one named function of arrays, and `run` says that
the whole program ends with their composition `refOut` of its arguments. -/

namespace Cert.Proof.Ref

open Idealize.ShloMosaic Idealize.SL.Sem Cert.ReferenceIdeal Cert.ReferenceIdeal.Facts₀ Cert.ReferenceIdeal.Facts

/-- `x @ Wqk.T + bqk`: queries and keys side by side. -/
def projQK (x : FVec Ideal S1x2048x1024 .f32) (w : FVec Ideal S2048x1024 .f32) (b : FVec Ideal S2048 .f32) :
    FVec Ideal S1x2048x2048 .f32 :=
  addf (Host.dotGeneral dot_S1x2048x1024_S1024x2048_S1x2048x2048_2_0_01_1_n_n none x
      (transpose S1024x2048 [1, 0] w transposes_S2048x1024_S1024x2048_1_0))
    (broadcastInDim S1x2048x2048 ![0, 1, 2] bcast_S1x1x2048_S1x2048x2048_0_1_2
      (broadcastInDim S1x1x2048 ![2] bcast_S2048_S1x1x2048_2 b))

/-- `x @ W.T + b` for a square weight: the values, and the last projection. -/
def projSq (x : FVec Ideal S1x2048x1024 .f32) (w : FVec Ideal S1024x1024 .f32) (b : FVec Ideal S1024 .f32) :
    FVec Ideal S1x2048x1024 .f32 :=
  addf (Host.dotGeneral dot_S1x2048x1024_S1024x1024_S1x2048x1024_2_0_01_1_n_n none x
      (transpose S1024x1024 [1, 0] w transposes_S1024x1024_S1024x1024_1_0))
    (broadcastInDim S1x2048x1024 ![0, 1, 2] bcast_S1x1x1024_S1x2048x1024_0_1_2
      (broadcastInDim S1x1x1024 ![2] bcast_S1024_S1x1x1024_2 b))

/-- Split the 1024 columns into 16 heads of 64 and put the head axis before the row axis. -/
def heads (t : FVec Ideal S1x2048x1024 .f32) : FVec Ideal S1x16x2048x64 .f32 :=
  transpose S1x16x2048x64 [0, 2, 1, 3] (shapeCast S1x2048x16x64 t shapeCasts_S1x2048x1024_S1x2048x16x64)
    transposes_S1x2048x16x64_S1x16x2048x64_0_2_1_3

/-- The first half of the columns: the queries, by head. -/
def headsQ (t : FVec Ideal S1x2048x2048 .f32) : FVec Ideal S1x16x2048x64 .f32 :=
  heads (extractStridedSlice S1x2048x1024 ![0, 0, 0] t slices_S1x2048x2048_S1x2048x1024_0_0_0)

/-- The second half of the columns: the keys, by head. -/
def headsK (t : FVec Ideal S1x2048x2048 .f32) : FVec Ideal S1x16x2048x64 .f32 :=
  heads (extractStridedSlice S1x2048x1024 ![0, 0, 1024] t slices_S1x2048x2048_S1x2048x1024_0_0_1024)

/-- The queries rotated: one number per head, row and rotation. -/
def rotated (rot : FVec Ideal S16x4x64 .f32) (q : FVec Ideal S1x16x2048x64 .f32) : FVec Ideal S1x16x2048x4 .f32 :=
  transpose S1x16x2048x4 [2, 0, 3, 1]
    (Host.dotGeneral dot_S16x4x64_S1x16x2048x64_S16x4x1x2048_2_3_1_02_0_1 none rot q)
    transposes_S16x4x1x2048_S1x16x2048x4_2_0_3_1

/-- The hash bucket of each row: the argmax over the rotations and their negatives. -/
def buckets (rot : FVec Ideal S16x4x64 .f32) (q : FVec Ideal S1x16x2048x64 .f32) : IVec S1x16x2048 32 :=
  fun j => (Host.argReduce reducer_argmax_f32_i32
    (concatenate S1x16x2048x8 3 [⟨S1x16x2048x4, rotated rot q⟩, ⟨S1x16x2048x4, Host.negf (rotated rot q)⟩]
      concatenates_S1x16x2048x4_S1x16x2048x4_S1x16x2048x8_d3)
    (iotaInDim S1x16x2048x8 32 3) (constant S_ .f32 0xFF800000#32) (constantI S_ 32 0#32)
    reducesTo_S1x16x2048x8_S1x16x2048_d3 h_S_ j).2

/-- The stable argsort along the rows. -/
def argsort (b : IVec S1x16x2048 32) : IVec S1x16x2048 32 :=
  (Host.sort2 S1x16x2048 2 comparator_i32_i32_d2 b (iotaInDim S1x16x2048 32 2)).2

/-- The row numbers as the gather takes them: a negative one counts from the end. -/
def rowIdx (i : IVec S1x16x2048 32) : IVec S16x2048x1 32 :=
  let i' : IVec S1x16x2048x1 32 := broadcastInDim S1x16x2048x1 ![0, 1, 2] bcast_S1x16x2048_S1x16x2048x1_0_1_2 i
  shapeCast S16x2048x1
    (select (cmpi .slt i' (broadcastInDim S1x16x2048x1 ![] bcast_S_S1x16x2048x1 (constantI S_ 32 0#32)))
      (addi i' (broadcastInDim S1x16x2048x1 ![] bcast_S_S1x16x2048x1 (constantI S_ 32 2048#32))) i')
    shapeCasts_S1x16x2048x1_S16x2048x1

/-- Which row numbers lie in range. -/
def inRange (i : IVec S16x2048x1 32) : IVec S16x2048 1 :=
  Host.reduce IntOp.andi
    (andi (cmpi .sge i (broadcastInDim S16x2048x1 ![] bcast_S_S16x2048x1 (constantI S_ 32 0#32)))
      (cmpi .sle i (broadcastInDim S16x2048x1 ![0, 1, 2] bcast_S1x1x1_S16x2048x1_0_1_2
        (broadcastInDim S1x1x1 ![2] bcast_S1_S1x1x1_2 (constantI S1 32 2047#32)))))
    (constantI S_ 1 1#1) reducesTo_S16x2048x1_S16x2048_d2 h_S_

/-- `take_along_axis` along the rows. -/
def take (t : FVec Ideal S1x16x2048x64 .f32) (i : IVec S1x16x2048 32) : FVec Ideal S1x16x2048x64 .f32 :=
  select (broadcastInDim S1x16x2048x64 ![1, 2] bcast_S16x2048_S1x16x2048x64_1_2 (inRange (rowIdx i)))
    (Host.gather gather_S1x16x2048x64_S16x2048x1_S1x16x2048x64_03_2_1_0_2_2_11164 t (rowIdx i))
    (broadcastInDim S1x16x2048x64 ![] bcast_S_S1x16x2048x64 (constant S_ .f32 0x7FC00000#32))

/-- The scores of every row against every row, divided by 8. -/
def scores (q k : FVec Ideal S1x16x2048x64 .f32) : FVec Ideal S1x16x2048x2048 .f32 :=
  Host.divf (Host.dotGeneral dot_S1x16x2048x64_S1x16x2048x64_S1x16x2048x2048_3_3_2_2_01_01 none q k)
    (broadcastInDim S1x16x2048x2048 ![] bcast_S_S1x16x2048x2048 (constant S_ .f32 0x41000000#32))

/-- The largest score of each row. -/
def rowMax (d : FVec Ideal S1x16x2048x2048 .f32) : FVec Ideal S1x16x2048 .f32 :=
  maximumf (broadcastInDim S1x16x2048 ![] bcast_S_S1x16x2048 (constant S_ .f32 0xFF800000#32))
    (Host.reduce FloatOps.maximumf d (constant S_ .f32 0xFF800000#32) reducesTo_S1x16x2048x2048_S1x16x2048_d3 h_S_)

/-- A number per row, repeated along the row. -/
def alongRow (v : FVec Ideal S1x16x2048 .f32) : FVec Ideal S1x16x2048x2048 .f32 :=
  broadcastInDim S1x16x2048x2048 ![0, 1, 2, 3] bcast_S1x16x2048x1_S1x16x2048x2048_0_1_2_3
    (broadcastInDim S1x16x2048x1 ![0, 1, 2] bcast_S1x16x2048_S1x16x2048x1_0_1_2 v)

/-- The exponentials of the scores less their row's largest. -/
def expShift (d : FVec Ideal S1x16x2048x2048 .f32) : FVec Ideal S1x16x2048x2048 .f32 :=
  Host.exp (subf d (alongRow (rowMax d)))

/-- The softmax's last step: each exponential divided by its row's sum. -/
def normalize (e : FVec Ideal S1x16x2048x2048 .f32) : FVec Ideal S1x16x2048x2048 .f32 :=
  Host.divf e (alongRow (Host.reduceAdd e (constant S_ .f32 0x00000000#32)
    reducesTo_S1x16x2048x2048_S1x16x2048_d3 h_S_))

/-- The values mixed by the attention weights. -/
def mix (a : FVec Ideal S1x16x2048x2048 .f32) (v : FVec Ideal S1x16x2048x64 .f32) : FVec Ideal S1x16x2048x64 .f32 :=
  Host.dotGeneral dot_S1x16x2048x2048_S1x16x2048x64_S1x16x2048x64_3_2_2_3_01_01 none a v

/-- Attention over the rows put into the order `i`. -/
def sortedAttention (q k v : FVec Ideal S1x16x2048x64 .f32) (i : IVec S1x16x2048 32) :
    FVec Ideal S1x16x2048x64 .f32 :=
  mix (normalize (expShift (scores (take q i) (take k i)))) (take v i)

/-- The heads put side by side again. -/
def unheads (t : FVec Ideal S1x16x2048x64 .f32) : FVec Ideal S1x2048x1024 .f32 :=
  shapeCast S1x2048x1024 (transpose S1x2048x16x64 [0, 2, 1, 3] t transposes_S1x16x2048x64_S1x2048x16x64_0_2_1_3)
    shapeCasts_S1x2048x16x64_S1x2048x1024

/-- Attention over the rows sorted by bucket, put back into the original order. -/
def attention (q k v : FVec Ideal S1x16x2048x64 .f32) (rot : FVec Ideal S16x4x64 .f32) :
    FVec Ideal S1x16x2048x64 .f32 :=
  take (sortedAttention q k v (argsort (buckets rot q))) (argsort (argsort (buckets rot q)))

/-- The reference's result as a function of its eight arguments. -/
def refOut (x : FVec Ideal S1x2048x1024 .f32) (wqk : FVec Ideal S2048x1024 .f32) (bqk : FVec Ideal S2048 .f32)
    (wv : FVec Ideal S1024x1024 .f32) (bv : FVec Ideal S1024 .f32) (wo : FVec Ideal S1024x1024 .f32)
    (bo : FVec Ideal S1024 .f32) (rot : FVec Ideal S16x4x64 .f32) : FVec Ideal S2048x1024 .f32 :=
  shapeCast S2048x1024
    (projSq (unheads (attention (headsQ (projQK x wqk bqk)) (headsK (projQK x wqk bqk)) (heads (projSq x wv bv)) rot))
      wo bo)
    shapeCasts_S1x2048x1024_S2048x1024

end Cert.Proof.Ref

end
-- ==== Proof.RefRun.lean ====
module

public import proofs.«01_k».proof.Proof.RefStages

@[expose] public section

set_option maxRecDepth 16384

noncomputable section

/-! The reference runs: it leaves its arguments as they were, and its result is `refOut` of them. -/

namespace Cert.Proof.Ref

open Idealize.ShloMosaic Idealize.SL.Sem Cert.ReferenceIdeal

set_option maxRecDepth 100000 in
set_option maxHeartbeats 4000000 in
/-- The reference ends with `X`, if that is `refOut` of its arguments, and keeps them. -/
theorem run (X : (c : Dev nD) → FVec Ideal S2048x1024 .f32) (m : (ℓ : Loc nD τ sig) → Buf (Elt Ideal) ℓ) (g : Dev nD → PrngReg)
    (hX : ∀ c : Dev nD, X c = refOut (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7))) :
    θ_run (defs (F := Ideal)) (onTc (τ := τ) (main (F := Ideal))) ⟨m, fun _ => 0, g⟩ (fun r => ∀ c : Dev nD,
      r.2.mem ((c.tc : Thread nD τ).loc main_v55)
          = X c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  hlo_run
  rw [hX]
  simp -implicitDefEqProofs only [StableHlo.TRef.ofBuf_toBuf, StableHlo.TRef.toBuf, StableHlo.TRef.ofBuf, cast_cast, cast_eq]
  rfl

/-- The reference terminates, keeps its arguments and leaves every semaphore counter at zero. -/
theorem frame : Cert.quiescent_ReferenceIdeal := by
  intro m g _
  exact (θ_run _ _ _).mono (fun r h => ⟨fun c => (h c).2, sem_eq_zero_of_no_sems (sig := sig) (by decide) _⟩)
    (run _ m g fun _ => rfl)

end Cert.Proof.Ref

end
-- ==== Proof.RSort.lean ====
module

public import proofs.«01_k».proof.Proof.RefStages
public import Idealize.ShloMosaic.Lib.Pointwise
public import Idealize.ShloMosaic.Lib.IdealHost
public import Idealize.ShloMosaic.Lib.SortFacts

@[expose] public section

set_option maxRecDepth 16384

noncomputable section

/-! The reference's two sorts: the first puts the rows of each head in some order, and the second undoes it. -/

namespace Cert.Proof.Ref

open Idealize.ShloMosaic
open Cert.ReferenceIdeal Cert.ReferenceIdeal.Facts₀ Cert.ReferenceIdeal.Facts

/-- Which of the rows of head `h` lands at each place when they are sorted by `b`. -/
def order (b : IVec S1x16x2048 32) (h : Fin 16) : Fin 2048 → Fin 2048 :=
  sortedFrom fun k k' : Fin 2048 => IntOp.cmpi .slt (b (ix3 0 h k)) (b (ix3 0 h k')) == 1#1

theorem along_rows {H N : ℕ} (h : Fin H) (r k : Fin N) :
    Shape.Idx.along (s := ⟨3, ![1, H, N]⟩) (ix3 0 h r) (⟨2, Nat.lt_succ_self 2⟩ : Fin 3) k = ix3 0 h k := by
  funext a
  apply Fin.ext
  match a with
  | ⟨0, _⟩ => rfl
  | ⟨1, _⟩ => rfl
  | ⟨2, _⟩ => rfl

/-- What a sort carrying the row numbers leaves of them. -/
theorem sort2_rows {H N : ℕ} (cmp : BitVec 32 × BitVec 32 → BitVec 32 × BitVec 32 → BitVec 1)
    (b c : IVec ⟨3, ![1, H, N]⟩ 32) (h : Fin H) (r : Fin N) :
    (Host.sort2 ⟨3, ![1, H, N]⟩ 2 cmp b c).2 (ix3 0 h r)
      = c (ix3 0 h (sortedFrom (fun k k' : Fin N =>
          cmp (b (ix3 0 h k), c (ix3 0 h k)) (b (ix3 0 h k'), c (ix3 0 h k')) == 1#1) r)) := by
  have hd : (2 : ℕ) < (⟨3, ![1, H, N]⟩ : Shape).rank := Nat.lt_succ_self 2
  unfold Host.sort2
  rw [dif_pos hd]
  have hal := along_rows h r
  refine (congrArg c (hal _)).trans ?_
  refine congrArg (fun t => c (ix3 0 h t)) ?_
  refine congrArg (fun f : Fin N → Fin N → Bool => sortedFrom f r) ?_
  funext k k'
  exact congrArg₂ (fun p q => cmp (b p, c p) (b q, c q) == 1#1) (hal k) (hal k')

theorem argsort_apply (b : IVec S1x16x2048 32) (h : Fin 16) (r : Fin 2048) :
    argsort b (ix3 0 h r) = BitVec.ofNat 32 (order b h r).val :=
  (sort2_rows comparator_i32_i32_d2 b (iotaInDim S1x16x2048 32 2) h r).trans rfl

theorem order_bijective (b : IVec S1x16x2048 32) (h : Fin 16) : Function.Bijective (order b h) :=
  ⟨sortedFrom_injective _, sortedFrom_surjective _⟩

/-- Row numbers compare as words as they do as numbers. -/
theorem slt_rows (a c : Fin 2048) :
    (IntOp.cmpi .slt (BitVec.ofNat 32 a.val) (BitVec.ofNat 32 c.val) == 1#1) = decide (a.val < c.val) := by
  have ha := a.isLt
  have hc := c.isLt
  have e1 : (BitVec.ofNat 32 a.val).toInt = (a.val : ℤ) := by
    rw [BitVec.toInt_eq_toNat_of_lt] <;> simp <;> omega
  have e2 : (BitVec.ofNat 32 c.val).toInt = (c.val : ℤ) := by
    rw [BitVec.toInt_eq_toNat_of_lt] <;> simp <;> omega
  have h1 : (BitVec.ofNat 32 a.val).slt (BitVec.ofNat 32 c.val) = decide (a.val < c.val) := by
    rw [BitVec.slt_eq_decide, e1, e2]
    simp
  show (BitVec.ofBool ((BitVec.ofNat 32 a.val).slt (BitVec.ofNat 32 c.val)) == 1#1) = _
  rw [h1]
  by_cases hlt : a.val < c.val
  · simp [hlt]
  · simp [hlt]

/-- Sorting places by a permutation of them undoes the permutation. -/
theorem sortedFrom_undoes {n : ℕ} (σ : Fin n → Fin n) (hσ : Function.Bijective σ) (r : Fin n) :
    σ (sortedFrom (fun k k' => decide ((σ k).val < (σ k').val)) r) = r := by
  have hno := sortedFrom_noInversion
      (fun k k' : Fin n => decide ((σ k).val < (σ k').val))
      (fun k k' : Fin n => decide ((σ k).val < (σ k').val))
      (by intro a c hh; simp only [decide_eq_true_eq, decide_eq_false_iff_not] at hh ⊢; omega)
      (by intro a c hh; exact hh)
      (by intro a c d h1 h2; simp only [decide_eq_false_iff_not] at h1 h2 ⊢; omega)
  have hτ : Function.Bijective (sortedFrom fun k k' : Fin n => decide ((σ k).val < (σ k').val)) :=
    ⟨sortedFrom_injective _, sortedFrom_surjective _⟩
  generalize (sortedFrom fun k k' : Fin n => decide ((σ k).val < (σ k').val)) = τ at hno hτ
  have hbij : Function.Bijective (σ ∘ τ) := hσ.comp hτ
  have hmono : StrictMono (σ ∘ τ) := by
    intro i j hij
    have h1 := hno i j hij
    simp only [decide_eq_false_iff_not] at h1
    have hne : (σ ∘ τ) i ≠ (σ ∘ τ) j := fun he => absurd (hbij.1 he) (ne_of_lt hij)
    have hle : (σ ∘ τ) i ≤ (σ ∘ τ) j := by
      show (σ (τ i)).val ≤ (σ (τ j)).val
      omega
    exact lt_of_le_of_ne hle hne
  have hid : σ ∘ τ = id := by
    apply (hmono.range_inj strictMono_id).1
    rw [hbij.2.range_eq]
    simp
  exact congrFun hid r

/-- Sorting by a permutation of the row numbers leads back to the row numbers. -/
theorem order_argsort (b : IVec S1x16x2048 32) (h : Fin 16) (r : Fin 2048) :
    order b h (order (argsort b) h r) = r := by
  have hbef : (fun k k' : Fin 2048 => IntOp.cmpi .slt (argsort b (ix3 0 h k)) (argsort b (ix3 0 h k')) == 1#1)
      = fun k k' => decide ((order b h k).val < (order b h k').val) := by
    funext k k'
    rw [argsort_apply, argsort_apply, slt_rows]
  have hord : order (argsort b) h
      = sortedFrom (fun k k' : Fin 2048 => decide ((order b h k).val < (order b h k').val)) :=
    congrArg (fun f : Fin 2048 → Fin 2048 → Bool => sortedFrom f) hbef
  rw [hord]
  exact sortedFrom_undoes _ (order_bijective b h) r

end Cert.Proof.Ref

end
-- ==== Proof.RTake.lean ====
module

public import proofs.«01_k».proof.Proof.RSort
public import Idealize.ShloMosaic.Lib.ReduceAll

@[expose] public section

set_option maxRecDepth 16384

noncomputable section

/-! Taking rows by number: every number an argsort gives is in range, so the row it names is what is taken. -/

namespace Cert.Proof.Ref

open Idealize.ShloMosaic
open Cert.ReferenceIdeal Cert.ReferenceIdeal.Facts₀ Cert.ReferenceIdeal.Facts

section Gather
variable {α : Type}

/-- The gather's dimension numbers, over any number of heads, rows and columns. -/
abbrev rowDims (H N C : ℕ) (wf : GatherDims.WF ⟨4, ![1, H, N, C]⟩ ⟨3, ![H, N, 1]⟩ ⟨4, ![1, H, N, C]⟩ [0, 3] [2] [1] [2] [0]
    2 ![1, 1, 1, C]) : GatherDims ⟨4, ![1, H, N, C]⟩ ⟨3, ![H, N, 1]⟩ ⟨4, ![1, H, N, C]⟩ where
  offsetDims := [0, 3]
  collapsedSliceDims := [2]
  operandBatchingDims := [1]
  startIndicesBatchingDims := [0]
  startIndexMap := [2]
  indexVectorDim := 2
  sliceSizes := ![1, 1, 1, C]
  wf := wf

/-- The gather read at an index: the row its start index names, clamped into the rows there are. -/
theorem gather_rows {H N C w : ℕ} (hN : 0 < N)
    (wf : GatherDims.WF ⟨4, ![1, H, N, C]⟩ ⟨3, ![H, N, 1]⟩ ⟨4, ![1, H, N, C]⟩ [0, 3] [2] [1] [2] [0] 2 ![1, 1, 1, C])
    (x : (⟨4, ![1, H, N, C]⟩ : Shape).Idx → α) (idx : IVec ⟨3, ![H, N, 1]⟩ w) (h : Fin H) (r : Fin N) (e : Fin C) :
    Host.gather (rowDims H N C wf) x idx (ix4 0 h r e)
      = x (ix4 0 h ⟨min (idx (ix3 h r 0)).toInt.toNat (N - 1), by omega⟩ e) := by
  unfold Host.gather
  congr 1
  funext a
  refine Fin.ext ?_
  show (rowDims H N C wf).start (ix4 0 h r e) idx a + (rowDims H N C wf).batchCoord (ix4 0 h r e) a
      + (rowDims H N C wf).offCoord (ix4 0 h r e) a = _
  have ha : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases ha with rfl | rfl | rfl | rfl
  · have hlt : _ < 1 := (rowDims H N C wf).lt (ix4 0 h r e) idx 0
    exact Nat.lt_one_iff.1 hlt
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (2 : Fin 4) ∈ (rowDims H N C wf).startIndexMap from List.mem_singleton.mpr rfl)]
    have hsi : (rowDims H N C wf).siIdx (ix4 0 h r e) ⟨List.idxOf (2 : Fin 4) (rowDims H N C wf).startIndexMap,
        List.idxOf_lt_length_iff.2 (List.mem_singleton.mpr rfl)⟩ = ix3 h r 0 := by
      funext b; refine Fin.ext ?_
      match b with
      | ⟨0, _⟩ => rfl
      | ⟨1, _⟩ => rfl
      | ⟨2, _⟩ => rfl
    rw [hsi]
    rfl
  · rw [GatherDims.batchCoord_eq_zero _ _ _ (fun h => by simp at h)]
    unfold GatherDims.start GatherDims.offCoord
    rw [dif_neg (fun h => by simp at h), dif_pos ((GatherDims.mem_sKept _ _).mpr ⟨by simp, by simp⟩)]
    exact (Nat.zero_add _).trans rfl

end Gather

/-- What the gather adds for a negative number, read at an index. -/
theorem rowIdx_apply (i : IVec S1x16x2048 32) (h : Fin 16) (r : Fin 2048) :
    rowIdx i (ix3 h r 0) = Scalar.select (IntOp.cmpi .slt (i (ix3 0 h r)) 0#32)
      (IntOp.addi (i (ix3 0 h r)) 2048#32) (i (ix3 0 h r)) := by
  pointwise [rowIdx]

theorem toInt_row (n : Fin 2048) : (BitVec.ofNat 32 n.val).toInt = (n.val : ℤ) := by
  have hn := n.isLt
  rw [BitVec.toInt_eq_toNat_of_lt] <;> simp <;> omega

theorem select_row (n : Fin 2048) :
    Scalar.select (IntOp.cmpi .slt (BitVec.ofNat 32 n.val) 0#32) (IntOp.addi (BitVec.ofNat 32 n.val) 2048#32)
      (BitVec.ofNat 32 n.val) = BitVec.ofNat 32 n.val := by
  have h0 : IntOp.cmpi .slt (BitVec.ofNat 32 n.val) 0#32 = 0#1 := by
    show BitVec.ofBool ((BitVec.ofNat 32 n.val).slt 0#32) = 0#1
    have hf : (BitVec.ofNat 32 n.val).slt 0#32 = false := by
      rw [BitVec.slt_eq_decide, toInt_row]
      simp
    rw [hf]
    rfl
  rw [h0]
  rfl

theorem row_inRange (n : Fin 2048) :
    IntOp.andi (IntOp.cmpi .sge (BitVec.ofNat 32 n.val) 0#32) (IntOp.cmpi .sle (BitVec.ofNat 32 n.val) 2047#32)
      = 1#1 := by
  have hn := n.isLt
  have h1 : IntOp.cmpi .sge (BitVec.ofNat 32 n.val) 0#32 = 1#1 := by
    show BitVec.ofBool ((0#32).sle (BitVec.ofNat 32 n.val)) = 1#1
    have hf : (0#32).sle (BitVec.ofNat 32 n.val) = true := by
      rw [BitVec.sle_eq_decide, toInt_row]
      simp
    rw [hf]
    rfl
  have h2 : IntOp.cmpi .sle (BitVec.ofNat 32 n.val) 2047#32 = 1#1 := by
    show BitVec.ofBool ((BitVec.ofNat 32 n.val).sle 2047#32) = 1#1
    have hf : (BitVec.ofNat 32 n.val).sle 2047#32 = true := by
      rw [BitVec.sle_eq_decide, toInt_row]
      have : (2047#32).toInt = 2047 := by decide
      rw [this]
      simp
      omega
    rw [hf]
    rfl
  rw [h1, h2]
  rfl

/-- Where the row numbers are those of rows, the gather's start indices are they. -/
theorem rowIdx_row (i : IVec S1x16x2048 32) (σ : Fin 16 → Fin 2048 → Fin 2048)
    (hi : ∀ h r, i (ix3 0 h r) = BitVec.ofNat 32 (σ h r).val) (h : Fin 16) (r : Fin 2048) :
    rowIdx i (ix3 h r 0) = BitVec.ofNat 32 (σ h r).val := by
  rw [rowIdx_apply, hi, select_row]

/-- The test of one row number. -/
theorem test_apply (i : IVec S16x2048x1 32) (y : S16x2048x1.Idx) :
    (andi (cmpi .sge i (broadcastInDim S16x2048x1 ![] bcast_S_S16x2048x1 (constantI S_ 32 0#32)))
      (cmpi .sle i (broadcastInDim S16x2048x1 ![0, 1, 2] bcast_S1x1x1_S16x2048x1_0_1_2
        (broadcastInDim S1x1x1 ![2] bcast_S1_S1x1x1_2 (constantI S1 32 2047#32))))) y
      = IntOp.andi (IntOp.cmpi .sge (i y) 0#32) (IntOp.cmpi .sle (i y) 2047#32) := by
  rfl

theorem inRange_row (i : IVec S16x2048x1 32) (hi : ∀ y, ∃ n : Fin 2048, i y = BitVec.ofNat 32 n.val)
    (y : S16x2048.Idx) : inRange i y = 1#1 := by
  unfold inRange
  refine Host.reduce_andi_one _ _ _ _ _ rfl fun z => ?_
  rw [test_apply]
  obtain ⟨n, hn⟩ := hi z
  rw [hn]
  exact row_inRange n

theorem select_ones {s : Shape} {α : Type} (c : IVec s 1) (a b : s.Idx → α) (y : s.Idx) (hc : c y = 1#1) :
    select c a b y = a y := by
  show Scalar.select (c y) (a y) (b y) = a y
  rw [hc]
  rfl

theorem wide_ones (c : IVec S16x2048 1) (hc : ∀ y, c y = 1#1) (y : S1x16x2048x64.Idx) :
    broadcastInDim S1x16x2048x64 ![1, 2] bcast_S16x2048_S1x16x2048x64_1_2 c y = 1#1 := hc _

theorem take_select (t : FVec Ideal S1x16x2048x64 .f32) (i : IVec S1x16x2048 32) (h : Fin 16) (r : Fin 2048)
    (e : Fin 64) (hin : ∀ y, inRange (rowIdx i) y = 1#1) :
    take t i (ix4 0 h r e)
      = Host.gather gather_S1x16x2048x64_S16x2048x1_S1x16x2048x64_03_2_1_0_2_2_11164 t (rowIdx i) (ix4 0 h r e) := by
  unfold take
  exact select_ones _ _ _ _ (wide_ones _ hin _)

/-- Taking rows by number, read at an index. -/
theorem take_apply (t : FVec Ideal S1x16x2048x64 .f32) (i : IVec S1x16x2048 32) (σ : Fin 16 → Fin 2048 → Fin 2048)
    (hi : ∀ h r, i (ix3 0 h r) = BitVec.ofNat 32 (σ h r).val) (h : Fin 16) (r : Fin 2048) (e : Fin 64) :
    take t i (ix4 0 h r e) = t (ix4 0 h (σ h r) e) := by
  have hrow := rowIdx_row i σ hi
  have hy : ∀ y : S16x2048x1.Idx, ∃ n : Fin 2048, rowIdx i y = BitVec.ofNat 32 n.val := by
    intro y
    have e3 : y = ix3 (y 0) (y 1) 0 := by
      funext a
      match a with
      | ⟨0, _⟩ => rfl
      | ⟨1, _⟩ => rfl
      | ⟨2, _⟩ => exact Subsingleton.elim (α := Fin 1) _ _
    exact ⟨σ (y 0) (y 1), (congrArg (rowIdx i) e3).trans (hrow (y 0) (y 1))⟩
  rw [take_select t i h r e (inRange_row (rowIdx i) hy)]
  refine (gather_rows (by decide) gather_S1x16x2048x64_S16x2048x1_S1x16x2048x64_03_2_1_0_2_2_11164_wf t (rowIdx i) h r e).trans ?_
  have hn := (σ h r).isLt
  have hv : (⟨min (rowIdx i (ix3 h r 0)).toInt.toNat (2048 - 1), by omega⟩ : Fin 2048) = σ h r := by
    apply Fin.ext
    show min (rowIdx i (ix3 h r 0)).toInt.toNat (2048 - 1) = (σ h r).val
    rw [hrow, toInt_row, Int.toNat_natCast]
    omega
  rw [hv]

end Cert.Proof.Ref

end
-- ==== Proof.RVal.lean ====
module

public import proofs.«01_k».proof.Proof.RefStages
public import Idealize.ShloMosaic.Lib.Pointwise
public import Idealize.ShloMosaic.Lib.IdealHost

@[expose] public section

set_option maxRecDepth 16384

noncomputable section

/-! The reference's stages read at an index. -/

namespace Cert.Proof.Ref

open Idealize.ShloMosaic
open Cert.ReferenceIdeal Cert.ReferenceIdeal.Facts₀ Cert.ReferenceIdeal.Facts

/-- Column `e` of head `h`. -/
def hcol (h : Fin 16) (e : Fin 64) : Fin 1024 := ⟨64 * h.val + e.val, by omega⟩

theorem projQK_apply (x : FVec Ideal S1x2048x1024 .f32) (w : FVec Ideal S2048x1024 .f32) (b : FVec Ideal S2048 .f32)
    (i : Fin 2048) (j : Fin 2048) :
    projQK x w b (ix3 0 i j) = (∑ d : Fin 1024, x (ix3 0 i d) * w (ix2 j d)) + b (ix1 j) := by
  pointwise [projQK]

theorem projSq_apply (x : FVec Ideal S1x2048x1024 .f32) (w : FVec Ideal S1024x1024 .f32) (b : FVec Ideal S1024 .f32)
    (i : Fin 2048) (j : Fin 1024) :
    projSq x w b (ix3 0 i j) = (∑ d : Fin 1024, x (ix3 0 i d) * w (ix2 j d)) + b (ix1 j) := by
  pointwise [projSq]

theorem heads_apply (t : FVec Ideal S1x2048x1024 .f32) (h : Fin 16) (i : Fin 2048) (e : Fin 64) :
    heads t (ix4 0 h i e) = t (ix3 0 i (hcol h e)) := by
  pointwise [heads]
  exact congrArg t (congrArg (ix3 0 i) (Fin.ext (by show h.val * 64 + e.val = 64 * h.val + e.val; omega)))

theorem headsQ_apply (t : FVec Ideal S1x2048x2048 .f32) (h : Fin 16) (i : Fin 2048) (e : Fin 64) :
    headsQ t (ix4 0 h i e) = t (ix3 0 i ⟨(hcol h e).val, by omega⟩) := by
  unfold headsQ
  rw [heads_apply]
  pointwise

theorem headsK_apply (t : FVec Ideal S1x2048x2048 .f32) (h : Fin 16) (i : Fin 2048) (e : Fin 64) :
    headsK t (ix4 0 h i e) = t (ix3 0 i ⟨1024 + (hcol h e).val, by omega⟩) := by
  unfold headsK
  rw [heads_apply]
  pointwise

theorem unheads_apply (t : FVec Ideal S1x16x2048x64 .f32) (i : Fin 2048) (h : Fin 16) (e : Fin 64) :
    unheads t (ix3 0 i (hcol h e)) = t (ix4 0 h i e) := by
  pointwise [unheads]
  have e1 : (⟨(hcol h e).val / 64, by have := (hcol h e).isLt; omega⟩ : Fin 16) = h :=
    Fin.ext (by show (64 * h.val + e.val) / 64 = h.val; omega)
  have e2 : (⟨(hcol h e).val % 64, Nat.mod_lt _ (by norm_num)⟩ : Fin 64) = e :=
    Fin.ext (by show (64 * h.val + e.val) % 64 = e.val; omega)
  exact congrArg t (congrArg₂ (fun a b => ix4 0 a i b) e1 e2)

theorem scores_apply (q k : FVec Ideal S1x16x2048x64 .f32) (h : Fin 16) (i j : Fin 2048) :
    scores q k (ix4 0 h i j)
      = Ideal.div (∑ e : Fin 64, q (ix4 0 h i e) * k (ix4 0 h j e)) (Ideal.ofBits .f32 0x41000000#32) := by
  pointwise [scores]

/-- A maximum over reals is real, once there is one. -/
theorem foldl_max_real {ι : Type} (x : ι → EReal) (hx : ∀ i, ∃ r : ℝ, x i = (r : EReal)) :
    ∀ (l : List ι) (init : EReal), init ≠ ⊤ → (init ≠ ⊥ ∨ l ≠ []) →
      ∃ r : ℝ, l.foldl (fun r i => max r (x i)) init = (r : EReal)
  | [], init, ht, hb => ⟨init.toReal, (EReal.coe_toReal ht (hb.resolve_right fun h => h rfl)).symm⟩
  | a :: l, init, ht, _ => by
    obtain ⟨r, hr⟩ := hx a
    refine foldl_max_real x hx l (max init (x a)) ?_ (Or.inl ?_)
    · rw [hr]
      exact (max_lt (lt_top_iff_ne_top.mpr ht) (EReal.coe_lt_top r)).ne
    · rw [hr]
      exact ((EReal.bot_lt_coe r).trans_le (le_max_right _ _)).ne'

/-- The host's maximum along some axes of an array of reals, from `-∞`, is real wherever anything reduces. -/
theorem reduce_max_real {s t u : Shape} {axes : List (Fin s.rank)} (x : FVec Ideal s .f32) (init : FVec Ideal u .f32)
    (h : s.ReducesTo axes t) (hu : 0 < u.numel) (j : t.Idx) (hx : ∀ i, ∃ r : ℝ, x i = (r : EReal))
    (hi : init (Shape.Idx.first hu) = ⊥) (i₀ : s.Idx) (h₀ : h.drop i₀ = j) :
    ∃ r : ℝ, Host.reduce (FloatOps.maximumf (F := Ideal)) x init h hu j = (r : EReal) := by
  rw [Host.reduce_eq_foldl]
  refine foldl_max_real x hx _ _ (by rw [hi]; exact bot_ne_top) (Or.inr ?_)
  refine List.ne_nil_of_mem (a := i₀) ?_
  rw [List.mem_filter]
  exact ⟨List.mem_map.2 ⟨s.rowMajor i₀, List.mem_finRange _, Equiv.symm_apply_apply _ _⟩, by simp [h₀]⟩

theorem ofBits_negInf : Ideal.ofBits .f32 0xFF800000#32 = ⊥ := by
  simp [Ideal.ofBits, Ideal.ieee]

theorem ofBits_eight : Ideal.ofBits .f32 0x41000000#32 = ((8 : ℝ) : EReal) := by
  simp [Ideal.ofBits, Ideal.ieee, -EReal.coe_mul]; norm_num

/-- An index of the scores drops to its head and row. -/
theorem drop_scores (h : Fin 16) (i j : Fin 2048) :
    Shape.ReducesTo.drop reducesTo_S1x16x2048x2048_S1x16x2048_d3 (ix4 0 h i j) = ix3 0 h i := by
  funext a
  apply Fin.ext
  match a with
  | ⟨0, _⟩ => rfl
  | ⟨1, _⟩ => rfl
  | ⟨2, _⟩ => rfl

/-- The maximum of `-∞` and a real array is the array. -/
theorem max_negInf_real {s : Shape} (a b : FVec Ideal s .f32) (j : s.Idx) (ha : a j = ⊥)
    (hb : ∃ r : ℝ, b j = (r : EReal)) : ∃ r : ℝ, maximumf a b j = (r : EReal) := by
  obtain ⟨r, hr⟩ := hb
  refine ⟨r, ?_⟩
  show max (a j) (b j) = _
  rw [ha, hr]
  exact max_eq_right bot_le

theorem init_negInf (i : S_.Idx) : constant (F := Ideal) S_ .f32 0xFF800000#32 i = ⊥ := ofBits_negInf

theorem wide_negInf (j : S1x16x2048.Idx) : broadcastInDim S1x16x2048 ![] bcast_S_S1x16x2048
    (constant (F := Ideal) S_ .f32 0xFF800000#32) j = ⊥ := ofBits_negInf

/-- The largest score of a row of real scores is real. -/
theorem rowMax_real (d : FVec Ideal S1x16x2048x2048 .f32) (hd : ∀ i, ∃ r : ℝ, d i = (r : EReal)) (h : Fin 16) (i : Fin 2048) :
    ∃ r : ℝ, rowMax d (ix3 0 h i) = (r : EReal) :=
  max_negInf_real _ _ _ (wide_negInf _) (reduce_max_real d (constant S_ .f32 0xFF800000#32)
    reducesTo_S1x16x2048x2048_S1x16x2048_d3 h_S_ (ix3 0 h i) hd (init_negInf _) _ (drop_scores h i 0))

theorem expShift_apply (d : FVec Ideal S1x16x2048x2048 .f32) (h : Fin 16) (i j : Fin 2048) :
    expShift d (ix4 0 h i j) = Ideal.exp (d (ix4 0 h i j) - rowMax d (ix3 0 h i)) := by
  pointwise [expShift, alongRow]

theorem normalize_apply (d : FVec Ideal S1x16x2048x2048 .f32) (h : Fin 16) (i j : Fin 2048) :
    normalize d (ix4 0 h i j) = Ideal.div (d (ix4 0 h i j)) (∑ l : Fin 2048, d (ix4 0 h i l)) := by
  pointwise [normalize, alongRow]

theorem mix_apply (a : FVec Ideal S1x16x2048x2048 .f32) (v : FVec Ideal S1x16x2048x64 .f32) (h : Fin 16) (i : Fin 2048)
    (e : Fin 64) : mix a v (ix4 0 h i e) = ∑ j : Fin 2048, a (ix4 0 h i j) * v (ix4 0 h j e) := by
  pointwise [mix]

theorem refOut_apply (x : FVec Ideal S1x2048x1024 .f32) (wqk : FVec Ideal S2048x1024 .f32) (bqk : FVec Ideal S2048 .f32)
    (wv : FVec Ideal S1024x1024 .f32) (bv : FVec Ideal S1024 .f32) (wo : FVec Ideal S1024x1024 .f32)
    (bo : FVec Ideal S1024 .f32) (rot : FVec Ideal S16x4x64 .f32) (i : Fin 2048) (n : Fin 1024) :
    refOut x wqk bqk wv bv wo bo rot (ix2 i n) = projSq (unheads (attention (headsQ (projQK x wqk bqk))
      (headsK (projQK x wqk bqk)) (heads (projSq x wv bv)) rot)) wo bo (ix3 0 i n) := by
  unfold refOut
  generalize projSq (unheads _) wo bo = X
  pointwise

end Cert.Proof.Ref

end
-- ==== Proof.Softmax.lean ====
module

public import Idealize.ShloMosaic.Lib.IdealHost
public import Mathlib.Analysis.SpecialFunctions.Pow.Real

@[expose] public section

noncomputable section

/-! Extended-real arithmetic of the softmax: sums of reals are real, a real factor comes out of a sum, and the real
number subtracted from every score before the exponential changes no weighted mean. -/

namespace Cert.Proof.Softmax

open Idealize.ShloMosaic

/-- A finite sum of reals is the real sum. -/
theorem sum_real {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A nonnegative real factor comes out of a finite sum, whatever the terms. -/
theorem factor_sum {ι : Type} (s : Finset ι) (c : ℝ) (hc : 0 ≤ c) (f : ι → EReal) :
    (∑ i ∈ s, (c : EReal) * f i) = (c : EReal) * ∑ i ∈ s, f i := by
  classical
  induction s using Finset.induction_on with
  | empty => simp
  | insert a s ha ih =>
    rw [Finset.sum_insert ha, Finset.sum_insert ha, ih,
      EReal.left_distrib_of_nonneg_of_ne_top (EReal.coe_nonneg.mpr hc) (EReal.coe_ne_top c)]

/-- The softmax of real scores, whatever real is subtracted from all of them, is the weighted mean by their
    exponentials. The averaged values may be infinite. -/
theorem softmax_mean {ι : Type} [Fintype ι] [Nonempty ι] (z : ι → ℝ) (M : ℝ) (v : ι → EReal) :
    (∑ j, Ideal.div (Ideal.exp ((z j : EReal) - (M : EReal))) (∑ l, Ideal.exp ((z l : EReal) - (M : EReal))) * v j)
      = Ideal.div (∑ j, Ideal.exp (z j : EReal) * v j) (∑ l, Ideal.exp (z l : EReal)) := by
  have hexp : ∀ j, Ideal.exp ((z j : EReal) - (M : EReal)) = ((Real.exp (z j - M) : ℝ) : EReal) := by
    intro j
    rw [← EReal.coe_sub, Ideal.exp_coe]
  have hD : 0 < ∑ l, Real.exp (z l - M) := Finset.sum_pos (fun l _ => Real.exp_pos _) Finset.univ_nonempty
  have hW : 0 < ∑ l, Real.exp (z l) := Finset.sum_pos (fun l _ => Real.exp_pos _) Finset.univ_nonempty
  have hDW : (∑ l, Real.exp (z l - M)) * Real.exp M = ∑ l, Real.exp (z l) := by
    rw [Finset.sum_mul]
    refine Finset.sum_congr rfl fun l _ => ?_
    rw [← Real.exp_add, sub_add_cancel]
  simp only [hexp, Ideal.exp_coe, sum_real]
  rw [Ideal.div_coe hW.ne', mul_comm, ← factor_sum _ _ (by positivity)]
  refine Finset.sum_congr rfl fun j _ => ?_
  rw [Ideal.div_coe hD.ne', ← mul_assoc, ← EReal.coe_mul, ← EReal.coe_mul]
  congr 2
  rw [← hDW, ← sub_add_cancel (z j) M, Real.exp_add, sub_add_cancel]
  have := Real.exp_pos M
  field_simp

/-- A power of two whose exponent carries the factor `1 / (8 ln 2)` is the exponential of an eighth. -/
theorem exp2_scaled (z : ℝ) :
    Ideal.exp2 (((z * (8 * Real.log 2)⁻¹ : ℝ)) : EReal) = Ideal.exp ((z * (1 / 8) : ℝ) : EReal) := by
  rw [Ideal.exp2_coe, Ideal.exp_coe]
  congr 1
  show (2 : ℝ) ^ (z * (8 * Real.log 2)⁻¹) = _
  rw [Real.rpow_def_of_pos (by norm_num)]
  congr 1
  have : Real.log 2 ≠ 0 := (Real.log_pos (by norm_num)).ne'
  field_simp

end Cert.Proof.Softmax

end
-- ==== Proof.RAtt.lean ====
module

public import proofs.«01_k».proof.Proof.RTake
public import proofs.«01_k».proof.Proof.RVal
public import proofs.«01_k».proof.Proof.Softmax

@[expose] public section

set_option maxRecDepth 16384

noncomputable section

/-! The reference's attention as a weighted mean: the order the rows are sorted in cancels, because every row attends
to every row and the second sort puts the results back. -/

namespace Cert.Proof.Ref

open Idealize.ShloMosaic
open Cert.ReferenceIdeal Cert.ReferenceIdeal.Facts₀ Cert.ReferenceIdeal.Facts

/-- The scores of real rows are real: their inner product divided by 8. -/
theorem scores_real (q k : FVec Ideal S1x16x2048x64 .f32) (Q K : Fin 16 → Fin 2048 → Fin 64 → ℝ)
    (hq : ∀ h r e, q (ix4 0 h r e) = (Q h r e : EReal)) (hk : ∀ h r e, k (ix4 0 h r e) = (K h r e : EReal))
    (h : Fin 16) (i j : Fin 2048) :
    scores q k (ix4 0 h i j) = (((∑ e, Q h i e * K h j e) * (1 / 8) : ℝ) : EReal) := by
  rw [scores_apply, ofBits_eight, Ideal.div_coe (by norm_num), EReal.coe_mul]
  congr 1
  rw [← Softmax.sum_real]
  refine Finset.sum_congr rfl fun e _ => ?_
  rw [hq, hk, EReal.coe_mul]

theorem idx_scores (y : S1x16x2048x2048.Idx) : y = ix4 0 (y 1) (y 2) (y 3) := by
  funext a
  match a with
  | ⟨0, _⟩ => exact Subsingleton.elim (α := Fin 1) _ _
  | ⟨1, _⟩ => rfl
  | ⟨2, _⟩ => rfl
  | ⟨3, _⟩ => rfl

/-- Attention of real rows over any values: the mean weighted by the exponentials of the scores. -/
theorem mean_apply (q k v : FVec Ideal S1x16x2048x64 .f32) (Q K : Fin 16 → Fin 2048 → Fin 64 → ℝ)
    (hq : ∀ h r e, q (ix4 0 h r e) = (Q h r e : EReal)) (hk : ∀ h r e, k (ix4 0 h r e) = (K h r e : EReal))
    (h : Fin 16) (i : Fin 2048) (e : Fin 64) :
    mix (normalize (expShift (scores q k))) v (ix4 0 h i e)
      = Ideal.div (∑ j : Fin 2048, Ideal.exp (((∑ e, Q h i e * K h j e) * (1 / 8) : ℝ) : EReal) * v (ix4 0 h j e))
          (∑ j : Fin 2048, Ideal.exp (((∑ e, Q h i e * K h j e) * (1 / 8) : ℝ) : EReal)) := by
  have hs := scores_real q k Q K hq hk
  have hreal : ∀ y, ∃ r : ℝ, scores q k y = (r : EReal) := fun y =>
    ⟨_, (congrArg (scores q k) (idx_scores y)).trans (hs (y 1) (y 2) (y 3))⟩
  generalize scores q k = d at hs hreal
  obtain ⟨M, hM⟩ := rowMax_real d hreal h i
  rw [mix_apply, ← Softmax.softmax_mean _ M]
  refine Finset.sum_congr rfl fun j _ => ?_
  rw [normalize_apply]
  simp only [expShift_apply, hM, hs]

theorem div_reindex {n : ℕ} (σ : Fin n → Fin n) (hσ : Function.Bijective σ) (f g : Fin n → EReal) :
    Ideal.div (∑ j, f (σ j)) (∑ j, g (σ j)) = Ideal.div (∑ j, f j) (∑ j, g j) := by
  rw [hσ.sum_comp f, hσ.sum_comp g]

/-- Attention over sorted rows: the sorted row's own mean, over the rows in any order. -/
theorem sorted_apply (q k v : FVec Ideal S1x16x2048x64 .f32) (i : IVec S1x16x2048 32)
    (σ : Fin 16 → Fin 2048 → Fin 2048) (hσ : ∀ h, Function.Bijective (σ h))
    (hi : ∀ h r, i (ix3 0 h r) = BitVec.ofNat 32 (σ h r).val)
    (Q K : Fin 16 → Fin 2048 → Fin 64 → ℝ)
    (hq : ∀ h r e, q (ix4 0 h r e) = (Q h r e : EReal)) (hk : ∀ h r e, k (ix4 0 h r e) = (K h r e : EReal))
    (h : Fin 16) (a : Fin 2048) (e : Fin 64) :
    sortedAttention q k v i (ix4 0 h a e)
      = Ideal.div (∑ j : Fin 2048, Ideal.exp (((∑ e, Q h (σ h a) e * K h j e) * (1 / 8) : ℝ) : EReal) * v (ix4 0 h j e))
          (∑ j : Fin 2048, Ideal.exp (((∑ e, Q h (σ h a) e * K h j e) * (1 / 8) : ℝ) : EReal)) := by
  unfold sortedAttention
  have hv := take_apply v i σ hi
  have hm := mean_apply (take q i) (take k i) (take v i)
    (fun h r e => Q h (σ h r) e) (fun h r e => K h (σ h r) e)
    (fun h r e => (take_apply q i σ hi h r e).trans (hq h (σ h r) e))
    (fun h r e => (take_apply k i σ hi h r e).trans (hk h (σ h r) e)) h a e
  refine hm.trans ?_
  simp only [hv]
  exact div_reindex (σ h) (hσ h)
    (fun j => Ideal.exp (((∑ e, Q h (σ h a) e * K h j e) * (1 / 8) : ℝ) : EReal) * v (ix4 0 h j e))
    (fun j => Ideal.exp (((∑ e, Q h (σ h a) e * K h j e) * (1 / 8) : ℝ) : EReal))

/-- The reference's attention, read at an index. -/
theorem attention_apply (q k v : FVec Ideal S1x16x2048x64 .f32) (rot : FVec Ideal S16x4x64 .f32)
    (Q K : Fin 16 → Fin 2048 → Fin 64 → ℝ)
    (hq : ∀ h r e, q (ix4 0 h r e) = (Q h r e : EReal)) (hk : ∀ h r e, k (ix4 0 h r e) = (K h r e : EReal))
    (h : Fin 16) (r : Fin 2048) (e : Fin 64) :
    attention q k v rot (ix4 0 h r e)
      = Ideal.div (∑ j : Fin 2048, Ideal.exp (((∑ e, Q h r e * K h j e) * (1 / 8) : ℝ) : EReal) * v (ix4 0 h j e))
          (∑ j : Fin 2048, Ideal.exp (((∑ e, Q h r e * K h j e) * (1 / 8) : ℝ) : EReal)) := by
  unfold attention
  generalize buckets rot q = b
  refine (take_apply (sortedAttention q k v (argsort b)) (argsort (argsort b)) (order (argsort b))
    (argsort_apply (argsort b)) h r e).trans ?_
  refine (sorted_apply q k v (argsort b) (order b) (order_bijective b) (argsort_apply b) Q K hq hk h
    (order (argsort b) h r) e).trans ?_
  rw [order_argsort]

end Cert.Proof.Ref

end
-- ==== Proof.KBlocks.lean ====
module

public import proofs.«01_k».proof.Proof.KRun
public import Idealize.ShloMosaic.Lib.Pointwise
public import Idealize.ShloMosaic.Lib.IdealHost

@[expose] public section

set_option maxRecDepth 16384

noncomputable section

/-! The arrays that the kernel is entered with, and the blocks of them that each grid point reads, as functions of
    the arguments. -/

namespace Cert.Proof.K

open Idealize.ShloMosaic Idealize.ShloMosaic.TcCoe Idealize.ShloMosaic.Tactic Idealize.SL.Sem
open Cert.KernelIdeal Cert.KernelIdeal.Gen

variable {F : FTy → Type} [FloatOps F] [Named F]
variable (m : (ℓ : Loc nD τ sig) → Buf (Elt F) ℓ)

/-! ## The index maps, in closed form -/

theorem index0 : ∀ t : Fin cfg0.N, win0_0.index t 0 = 0 ∧ win0_0.index t 1 = 0 := by decide +kernel
theorem index1 : ∀ t : Fin cfg0.N, win0_1.index t 0 = min t.val 3 ∧ win0_1.index t 1 = 0 := by decide +kernel
theorem index2 : ∀ t : Fin cfg0.N, win0_2.index t 0 = min (t.val - 4) 1 ∧ win0_2.index t 1 = 0 := by decide +kernel
theorem index3 : ∀ t : Fin cfg0.N, win0_3.index t 0 = min t.val 5 ∧ win0_3.index t 1 = 0 ∧ win0_3.index t 2 = 0 := by
  decide +kernel
theorem index4 : ∀ t : Fin cfg0.N, win0_4.index t 0 = 0 ∧ win0_4.index t 1 = (t.val - 6) % 8 := by decide +kernel
theorem index5 : ∀ t : Fin cfg0.N, win0_5.index t 0 = 0 ∧ win0_5.index t 1 = 0 := by decide +kernel
theorem index6 : ∀ t : Fin cfg0.N, win0_6.index t 0 = (t.val - 6) / 8 ∧ win0_6.index t 1 = 0 := by decide +kernel

/-- Where the point `t ≥ 6` reads the queries, the keys and the values in the scratch. -/
theorem offQ : ∀ t : Fin cfg0.N, 6 ≤ t.val →
    k0_off2 (grid0.coords t) 0 = 1024 * ((t.val - 6) / 8) ∧ k0_off2 (grid0.coords t) 1 = 128 * ((t.val - 6) % 8) := by
  decide +kernel
theorem offK : ∀ t : Fin cfg0.N, 6 ≤ t.val →
    k0_off3 (grid0.coords t) 1024#32 0 = 0 ∧ k0_off3 (grid0.coords t) 1024#32 1 = 1024 + 128 * ((t.val - 6) % 8) := by
  decide +kernel
theorem offV : ∀ t : Fin cfg0.N, 6 ≤ t.val →
    k0_off3 (grid0.coords t) 2048#32 0 = 0 ∧ k0_off3 (grid0.coords t) 2048#32 1 = 2048 + 128 * ((t.val - 6) % 8) := by
  decide +kernel

/-! ## The arrays on entry -/

/-- The input, its leading unit axis dropped. -/
theorem entry_x (c : Dev nD) : V m c main_v0
    = shapeCast S2048x1024 (m (c.tc.loc main_arg0)) shapeCasts_S1x2048x1024_S2048x1024 := by
  unfold_abbrev_sides
  after_results
  rfl

/-- The output bias as a row. -/
theorem entry_bo (c : Dev nD) : V m c main_v11
    = shapeCast S1x1024 (m (c.tc.loc main_arg6)) shapeCasts_S1024_S1x1024 := by
  unfold_abbrev_sides
  after_results
  rfl

/-- The three biases one after another, the queries' one scaled, cut into six rows. -/
theorem entry_b (c : Dev nD) : V m c main_v10
    = shapeCast S6x1x512 (concatenate S3072 0 [⟨S1024, mulf (extractStridedSlice S1024 ![0] (m (c.tc.loc main_arg2) : Vec F S2048 .f32) slices_S2048_S1024_0)
        (broadcastInDim S1024 ![] bcast_S_S1024 (Host.divf (constant S_ .f32 0x3F800000#32)
          (mulf (constant S_ .f32 0x41000000#32) (Host.log (constant S_ .f32 0x40000000#32)))))⟩,
        ⟨S1024, extractStridedSlice S1024 ![1024] (m (c.tc.loc main_arg2) : Vec F S2048 .f32) slices_S2048_S1024_1024⟩,
        ⟨S1024, m (c.tc.loc main_arg4)⟩] concatenates_S1024_S1024_S1024_S3072_d0) shapeCasts_S3072_S6x1x512 := by
  unfold_abbrev_sides
  after_results
  rfl

/-! ## The blocks read at an index -/

/-- The input's block is the whole input. -/
theorem block_x (c : Dev nD) (t : Fin cfg0.N) (r : Fin 2048) (d : Fin 1024) :
    (iblk m c 0 t : Vec F S2048x1024 .f32) (ix2 r d) = (V m c main_v0 : Vec F S2048x1024 .f32) (ix2 r d) := by
  unfold iblk
  rw [View.read_apply]
  show (V m c main_v0 : Vec F S2048x1024 .f32) _ = _
  congr 1
  funext a
  apply Fin.ext
  match a with
  | ⟨0, _⟩ => show win0_0.index t 0 * 2048 + 1 * r.val = r.val; rw [(index0 t).1]; omega
  | ⟨1, _⟩ => show win0_0.index t 1 * 1024 + 1 * d.val = d.val; rw [(index0 t).2]; omega

/-- The block of query and key weights: rows `512 · min t 3` on. -/
theorem block_wqk (c : Dev nD) (t : Fin cfg0.N) (l : Fin 512) (d : Fin 1024) :
    (iblk m c 1 t : Vec F S512x1024 .f32) (ix2 l d)
      = (m (c.tc.loc main_arg1) : Vec F S2048x1024 .f32) (ix2 ⟨512 * min t.val 3 + l.val, by omega⟩ d) := by
  rw [← V_main_arg1 m c]
  unfold iblk
  rw [View.read_apply]
  show (V m c main_arg1 : Vec F S2048x1024 .f32) _ = _
  congr 1
  funext a
  apply Fin.ext
  match a with
  | ⟨0, _⟩ => show win0_1.index t 0 * 512 + 1 * l.val = 512 * min t.val 3 + l.val; rw [(index1 t).1]; omega
  | ⟨1, _⟩ => show win0_1.index t 1 * 1024 + 1 * d.val = d.val; rw [(index1 t).2]; omega

/-- The block of value weights: rows `512 · min (t - 4) 1` on. -/
theorem block_wv (c : Dev nD) (t : Fin cfg0.N) (l : Fin 512) (d : Fin 1024) :
    (iblk m c 2 t : Vec F S512x1024 .f32) (ix2 l d)
      = (m (c.tc.loc main_arg3) : Vec F S1024x1024 .f32) (ix2 ⟨512 * min (t.val - 4) 1 + l.val, by omega⟩ d) := by
  rw [← V_main_arg3 m c]
  unfold iblk
  rw [View.read_apply]
  show (V m c main_arg3 : Vec F S1024x1024 .f32) _ = _
  congr 1
  funext a
  apply Fin.ext
  match a with
  | ⟨0, _⟩ => show win0_2.index t 0 * 512 + 1 * l.val = 512 * min (t.val - 4) 1 + l.val; rw [(index2 t).1]; omega
  | ⟨1, _⟩ => show win0_2.index t 1 * 1024 + 1 * d.val = d.val; rw [(index2 t).2]; omega

/-- The block of biases: row `min t 5` of the six. -/
theorem block_b (c : Dev nD) (t : Fin cfg0.N) (l : Fin 512) :
    (iblk m c 3 t : Vec F S1x1x512 .f32) (ix3 0 0 l)
      = (V m c main_v10 : Vec F S6x1x512 .f32) (ix3 ⟨min t.val 5, by omega⟩ 0 l) := by
  unfold iblk
  rw [View.read_apply]
  show (V m c main_v10 : Vec F S6x1x512 .f32) _ = _
  congr 1
  funext a
  apply Fin.ext
  match a with
  | ⟨0, _⟩ => show win0_3.index t 0 * 1 + 1 * 0 = min t.val 5; rw [(index3 t).1]; omega
  | ⟨1, _⟩ => show win0_3.index t 1 * 1 + 1 * 0 = 0; rw [(index3 t).2.1]
  | ⟨2, _⟩ => show win0_3.index t 2 * 512 + 1 * l.val = l.val; rw [(index3 t).2.2]; omega

/-- The block of output weights: columns `128 · ((t - 6) mod 8)` on. -/
theorem block_wo (c : Dev nD) (t : Fin cfg0.N) (n : Fin 1024) (d : Fin 128) :
    (iblk m c 4 t : Vec F S1024x128 .f32) (ix2 n d)
      = (m (c.tc.loc main_arg5) : Vec F S1024x1024 .f32) (ix2 n ⟨128 * ((t.val - 6) % 8) + d.val, by omega⟩) := by
  rw [← V_main_arg5 m c]
  unfold iblk
  rw [View.read_apply]
  show (V m c main_arg5 : Vec F S1024x1024 .f32) _ = _
  congr 1
  funext a
  apply Fin.ext
  match a with
  | ⟨0, _⟩ => show win0_4.index t 0 * 1024 + 1 * n.val = n.val; rw [(index4 t).1]; omega
  | ⟨1, _⟩ =>
    show win0_4.index t 1 * 128 + 1 * d.val = 128 * ((t.val - 6) % 8) + d.val; rw [(index4 t).2]; omega

/-- The output bias's block is the whole of it. -/
theorem block_bo (c : Dev nD) (t : Fin cfg0.N) (n : Fin 1024) :
    (iblk m c 5 t : Vec F S1x1024 .f32) (ix2 0 n) = (V m c main_v11 : Vec F S1x1024 .f32) (ix2 0 n) := by
  unfold iblk
  rw [View.read_apply]
  show (V m c main_v11 : Vec F S1x1024 .f32) _ = _
  congr 1
  funext a
  apply Fin.ext
  match a with
  | ⟨0, _⟩ => show win0_5.index t 0 * 1 + 1 * 0 = 0; rw [(index5 t).1]
  | ⟨1, _⟩ => show win0_5.index t 1 * 1024 + 1 * n.val = n.val; rw [(index5 t).2]; omega

end Cert.Proof.K

end
-- ==== Proof.KPay.lean ====
module

public import proofs.«01_k».proof.Proof.Gen.KernelIdeal.Skeleton
public import Idealize.ShloMosaic.Lib.Pointwise
public import Idealize.ShloMosaic.Lib.IdealHost

@[expose] public section

set_option maxRecDepth 16384

noncomputable section

/-! One grid point's arithmetic over the extended reals: the kernel's three block computations read at an index. -/

namespace Cert.Proof.K

open Idealize.ShloMosaic
open Cert.KernelIdeal Cert.KernelIdeal.Gen

/-- The scale of the queries, `1 / (8 ln 2)`: `log2(e) / 8`. -/
def qs : EReal := (((8 * (Real.log 2))⁻¹ : ℝ) : EReal)

/-- The kernel's named constant is that scale. -/
theorem named_qscale : (Named.named (F := Ideal) (φ := .f32) κ "qscale" 0x3E38AA3B#32 : EReal) = qs :=
  IdealRules.named_const.ideal_named_scalar _ _ _ _ rfl

/-- One head of one block: the row's exponentials weigh the values and are summed beside them, the quotient is
    multiplied with the output weights of that head. The head's 64 columns start at `o`. -/
def headTerm (o : ℕ) (ho : o ≤ 64) (w : FVec Ideal S1024x128 .bf16) (q : FVec Ideal S1024x128 .bf16)
    (k v : FVec Ideal S2048x128 .bf16) (r n : Fin 1024) : EReal :=
  ∑ d : Fin 64, Ideal.div
    (∑ j : Fin 2048, Ideal.exp2 (∑ e : Fin 64, q (ix2 r ⟨o + e.val, by omega⟩) * k (ix2 j ⟨o + e.val, by omega⟩))
      * v (ix2 j ⟨o + d.val, by omega⟩))
    (∑ j : Fin 2048, Ideal.exp2 (∑ e : Fin 64, q (ix2 r ⟨o + e.val, by omega⟩) * k (ix2 j ⟨o + e.val, by omega⟩)))
    * w (ix2 n ⟨o + d.val, by omega⟩)

/-- A block of the projections at an index. -/
theorem pay1_apply (i : grid0.Coords) (x : FVec Ideal S2048x1024 .f32) (wa wb : FVec Ideal S512x1024 .f32)
    (b : FVec Ideal S1x1x512 .f32) (r : Fin 2048) (l : Fin 512) :
    k0_pay1 (F := Ideal) i x wa wb b (ix2 r l)
      = (∑ d : Fin 1024, x (ix2 r d) *
          (if (i 0).val < 2 then (if (i 0).val < 4 then wa (ix2 l d) else wb (ix2 l d)) * qs
            else (if (i 0).val < 4 then wa (ix2 l d) else wb (ix2 l d)))) + b (ix3 0 0 l) := by
  have h2 : Scalar.cmpi .slt (BitVec.ofNat 32 (i 0).val) 2#32 = if (i 0).val < 2 then 1#1 else 0#1 := by
    exact (by decide : ∀ n : ℕ, n < 22 → Scalar.cmpi .slt (BitVec.ofNat 32 n) 2#32 = if n < 2 then 1#1 else 0#1) _ (i 0).isLt
  have h4 : Scalar.cmpi .slt (BitVec.ofNat 32 (i 0).val) 4#32 = if (i 0).val < 4 then 1#1 else 0#1 := by
    exact (by decide : ∀ n : ℕ, n < 22 → Scalar.cmpi .slt (BitVec.ofNat 32 n) 4#32 = if n < 4 then 1#1 else 0#1) _ (i 0).isLt
  unfold k0_pay1
  rw [named_qscale, h2, h4]
  pointwise
  congr 1
  refine Finset.sum_congr rfl fun d _ => ?_
  split <;> split <;> rfl

/-- The two heads of one block at an index. -/
theorem pay3_apply (w : FVec Ideal S1024x128 .bf16) (q : FVec Ideal S1024x128 .bf16)
    (k v : FVec Ideal S2048x128 .bf16) (r n : Fin 1024) :
    k0_pay3 (F := Ideal) w q k v (ix2 r n)
      = headTerm 0 (by norm_num) w q k v r n + headTerm 64 (by norm_num) w q k v r n := by
  unfold headTerm
  pointwise [k0_pay3]
  rfl

/-- What the first of an output block's eight points stores: its two heads and the output bias. -/
theorem pay4_apply (w : FVec Ideal S1024x128 .bf16) (q : FVec Ideal S1024x128 .bf16)
    (k v : FVec Ideal S2048x128 .bf16) (b : FVec Ideal S1x1024 .f32) (r n : Fin 1024) :
    k0_pay4 (F := Ideal) w q k v b (ix2 r n) = k0_pay3 (F := Ideal) w q k v (ix2 r n) + b (ix2 0 n) := by
  unfold k0_pay4
  generalize k0_pay3 (F := Ideal) w q k v = X
  pointwise

/-- What each later point stores: the block as it was and its two heads. -/
theorem pay5_apply (w : FVec Ideal S1024x128 .bf16) (q : FVec Ideal S1024x128 .bf16)
    (k v : FVec Ideal S2048x128 .bf16) (y : FVec Ideal S1024x1024 .f32) (r n : Fin 1024) :
    k0_pay5 (F := Ideal) w q k v y (ix2 r n) = y (ix2 r n) + k0_pay3 (F := Ideal) w q k v (ix2 r n) := by
  unfold k0_pay5
  generalize k0_pay3 (F := Ideal) w q k v = X
  pointwise

/-- The cast of a block of output weights changes no value. -/
theorem pay2_apply (w : FVec Ideal S1024x128 .f32) (y : S1024x128.Idx) : k0_pay2 (F := Ideal) w y = w y := rfl

end Cert.Proof.K

end
-- ==== Proof.KQkv.lean ====
module

public import proofs.«01_k».proof.Proof.KBlocks
public import proofs.«01_k».proof.Proof.KPay

@[expose] public section

set_option maxRecDepth 16384

noncomputable section

/-! What the six projection points leave in the scratch: the scaled queries, the keys and the values. -/

namespace Cert.Proof.K

open Idealize.ShloMosaic Idealize.ShloMosaic.TcCoe Idealize.SL.Sem
open Cert.KernelIdeal Cert.KernelIdeal.Gen

variable (m : (ℓ : Loc nD τ sig) → Buf (Elt Ideal) ℓ)

/-! ## The arguments as arrays -/

abbrev argX (c : Dev nD) : FVec Ideal S1x2048x1024 .f32 := m (c.tc.loc main_arg0)
abbrev argWqk (c : Dev nD) : FVec Ideal S2048x1024 .f32 := m (c.tc.loc main_arg1)
abbrev argBqk (c : Dev nD) : FVec Ideal S2048 .f32 := m (c.tc.loc main_arg2)
abbrev argWv (c : Dev nD) : FVec Ideal S1024x1024 .f32 := m (c.tc.loc main_arg3)
abbrev argBv (c : Dev nD) : FVec Ideal S1024 .f32 := m (c.tc.loc main_arg4)
abbrev argWo (c : Dev nD) : FVec Ideal S1024x1024 .f32 := m (c.tc.loc main_arg5)
abbrev argBo (c : Dev nD) : FVec Ideal S1024 .f32 := m (c.tc.loc main_arg6)

/-! ## The literals of the bias's factor -/

theorem ofBits_two : Ideal.ofBits .f32 0x40000000#32 = ((2 : ℝ) : EReal) := by
  simp [Ideal.ofBits, Ideal.ieee, -EReal.coe_mul]; norm_num

theorem ofBits_eight : Ideal.ofBits .f32 0x41000000#32 = ((8 : ℝ) : EReal) := by
  simp [Ideal.ofBits, Ideal.ieee, -EReal.coe_mul]; norm_num

/-- The queries' bias is multiplied with the scale the kernel multiplies their weights with. -/
theorem factor_eq : Ideal.div 1 (((8 : ℝ) : EReal) * Ideal.log ((2 : ℝ) : EReal)) = qs := by
  have h2 : Ideal.log ((2 : ℝ) : EReal) = ((Real.log 2 : ℝ) : EReal) := by
    show (if (2 : ℝ) ≤ 0 then ⊥ else ((Real.log 2 : ℝ) : EReal)) = _
    rw [if_neg (by norm_num)]
  rw [h2, ← EReal.coe_mul, Ideal.div_coe (by positivity), one_mul, one_div]
  rfl

/-- The biases laid end to end, at a position. -/
theorem bias_apply (c : Dev nD) (n : Fin 6) (l : Fin 512) :
    (V m c main_v10 : FVec Ideal S6x1x512 .f32) (ix3 n 0 l)
      = if h : n.val * 512 + l.val < 1024 then argBqk m c (ix1 ⟨n.val * 512 + l.val, by omega⟩) * qs
        else if h' : n.val * 512 + l.val - 1024 < 1024 then argBqk m c (ix1 ⟨1024 + (n.val * 512 + l.val - 1024), by omega⟩)
        else argBv m c (ix1 ⟨n.val * 512 + l.val - 1024 - 1024, by omega⟩) := by
  rw [entry_b]
  pointwise
  rw [ofBits_two, ofBits_eight, factor_eq]

/-- Dropping a leading unit axis, at an index. -/
theorem dropLead_apply (X : FVec Ideal S1x2048x1024 .f32) (r : Fin 2048) (d : Fin 1024) :
    shapeCast S2048x1024 X shapeCasts_S1x2048x1024_S2048x1024 (ix2 r d) = X (ix3 0 r d) := by
  pointwise

/-- A vector as a row, at an index. -/
theorem asRow_apply (X : FVec Ideal S1024 .f32) (n : Fin 1024) :
    shapeCast S1x1024 X shapeCasts_S1024_S1x1024 (ix2 0 n) = X (ix1 n) := by
  pointwise

/-- The input at an index. -/
theorem x_apply (c : Dev nD) (t : Fin cfg0.N) (r : Fin 2048) (d : Fin 1024) :
    (iblk m c 0 t : FVec Ideal S2048x1024 .f32) (ix2 r d) = argX m c (ix3 0 r d) :=
  (block_x m c t r d).trans ((congrFun (entry_x m c) (ix2 r d)).trans (dropLead_apply (argX m c) r d))

/-- The output bias at an index. -/
theorem bo_apply (c : Dev nD) (t : Fin cfg0.N) (n : Fin 1024) :
    (iblk m c 5 t : FVec Ideal S1x1024 .f32) (ix2 0 n) = argBo m c (ix1 n) :=
  (block_bo m c t n).trans ((congrFun (entry_bo m c) (ix2 0 n)).trans (asRow_apply (argBo m c) n))

/-- A projection block at an index, for each of the six points. -/
theorem projBlock_apply (c : Dev nD) (n : ℕ) (hn : n < 6) (r : Fin 2048) (l : Fin 512) :
    projBlock m c n (ix2 r l)
      = (∑ d : Fin 1024, argX m c (ix3 0 r d) *
          (if n < 2 then (if n < 4 then argWqk m c (ix2 ⟨512 * min n 3 + l.val, by omega⟩ d)
              else argWv m c (ix2 ⟨512 * min (n - 4) 1 + l.val, by omega⟩ d)) * qs
            else (if n < 4 then argWqk m c (ix2 ⟨512 * min n 3 + l.val, by omega⟩ d)
              else argWv m c (ix2 ⟨512 * min (n - 4) 1 + l.val, by omega⟩ d))))
        + (V m c main_v10 : FVec Ideal S6x1x512 .f32) (ix3 ⟨n, hn⟩ 0 l) := by
  have hp : (pt n).val = n := Nat.mod_eq_of_lt (by omega)
  have hc : (grid0.coords (pt n) 0).val = n := (coords_val (pt n)).trans hp
  unfold projBlock
  rw [pay1_apply, block_b]
  congr 1
  · refine Finset.sum_congr rfl fun d _ => ?_
    rw [x_apply, block_wqk, block_wv, hc]
    simp only [hp]
  · simp only [hp, show min n 5 = n by omega]

/-! ## The scratch -/

/-- The scaled queries. -/
def qScaled (c : Dev nD) (i : Fin 2048) (j : Fin 1024) : EReal :=
  (∑ d : Fin 1024, argX m c (ix3 0 i d) * (argWqk m c (ix2 ⟨j.val, by omega⟩ d) * qs))
    + argBqk m c (ix1 ⟨j.val, by omega⟩) * qs

/-- The keys. -/
def keys (c : Dev nD) (i : Fin 2048) (j : Fin 1024) : EReal :=
  (∑ d : Fin 1024, argX m c (ix3 0 i d) * argWqk m c (ix2 ⟨1024 + j.val, by omega⟩ d))
    + argBqk m c (ix1 ⟨1024 + j.val, by omega⟩)

/-- The values. -/
def vals (c : Dev nD) (i : Fin 2048) (j : Fin 1024) : EReal :=
  (∑ d : Fin 1024, argX m c (ix3 0 i d) * argWv m c (ix2 j d)) + argBv m c (ix1 j)

/-- The scratch read at an index, as a projection block read at one. -/
theorem qkv_apply (c : Dev nD) (i : Fin 2048) (j : Fin 3072) :
    qkv m c (ix2 i j) = projBlock m c (j.val / 512) (ix2 i ⟨j.val % 512, Nat.mod_lt _ (by norm_num)⟩) := by
  rw [ix2_eq_valueIdx, ix2_eq_valueIdx]
  rfl

theorem qkv_q (c : Dev nD) (i : Fin 2048) (j : Fin 1024) :
    qkv m c (ix2 i ⟨j.val, by omega⟩) = qScaled m c i j := by
  have e : 512 * (j.val / 512) + j.val % 512 = j.val := Nat.div_add_mod _ _
  rw [qkv_apply, projBlock_apply m c (j.val / 512) (by omega), bias_apply]
  unfold qScaled
  have h : j.val / 512 * 512 + j.val % 512 = j.val := by omega
  have h3 : 512 * min (j.val / 512) 3 + j.val % 512 = j.val := by omega
  simp only [h, h3, if_pos (show j.val / 512 < 2 by omega), if_pos (show j.val / 512 < 4 by omega),
    dif_pos j.isLt]

theorem qkv_k (c : Dev nD) (i : Fin 2048) (j : Fin 1024) :
    qkv m c (ix2 i ⟨1024 + j.val, by omega⟩) = keys m c i j := by
  rw [qkv_apply, projBlock_apply m c ((1024 + j.val) / 512) (by omega), bias_apply]
  unfold keys
  have h : (1024 + j.val) / 512 * 512 + (1024 + j.val) % 512 = 1024 + j.val := by omega
  have h3 : 512 * min ((1024 + j.val) / 512) 3 + (1024 + j.val) % 512 = 1024 + j.val := by omega
  have h4 : 1024 + j.val - 1024 = j.val := by omega
  simp only [h, h3, h4, if_neg (show ¬ (1024 + j.val) / 512 < 2 by omega),
    if_pos (show (1024 + j.val) / 512 < 4 by omega), dif_neg (show ¬ 1024 + j.val < 1024 by omega), dif_pos j.isLt]

theorem qkv_v (c : Dev nD) (i : Fin 2048) (j : Fin 1024) :
    qkv m c (ix2 i ⟨2048 + j.val, by omega⟩) = vals m c i j := by
  rw [qkv_apply, projBlock_apply m c ((2048 + j.val) / 512) (by omega), bias_apply]
  unfold vals
  have h : (2048 + j.val) / 512 * 512 + (2048 + j.val) % 512 = 2048 + j.val := by omega
  have h3 : 512 * min ((2048 + j.val) / 512 - 4) 1 + (2048 + j.val) % 512 = j.val := by omega
  have h4 : 2048 + j.val - 1024 - 1024 = j.val := by omega
  simp only [h, h3, h4, if_neg (show ¬ (2048 + j.val) / 512 < 2 by omega),
    if_neg (show ¬ (2048 + j.val) / 512 < 4 by omega), dif_neg (show ¬ 2048 + j.val < 1024 by omega),
    dif_neg (show ¬ 2048 + j.val - 1024 < 1024 by omega)]

end Cert.Proof.K

end
-- ==== Proof.KOut.lean ====
module

public import proofs.«01_k».proof.Proof.KQkv

@[expose] public section

set_option maxRecDepth 16384

noncomputable section

/-! The kernel's result: the attention of each head without a row maximum, multiplied with the output weights. -/

namespace Cert.Proof.K

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- Column `d` of head `h`. -/
def col (h : Fin 16) (d : Fin 64) : Fin 1024 := ⟨64 * h.val + d.val, by omega⟩

/-- The weight of row `j` in row `i`'s attention, head `h`, before the division. -/
def weight (c : Dev nD) (h : Fin 16) (i j : Fin 2048) : EReal :=
  Ideal.exp2 (∑ e : Fin 64, qScaled m c i (col h e) * keys m c j (col h e))

/-- Row `i` of head `h`'s attention at column `d` of the head. -/
def headOut (c : Dev nD) (h : Fin 16) (i : Fin 2048) (d : Fin 64) : EReal :=
  Ideal.div (∑ j : Fin 2048, weight m c h i j * vals m c j (col h d)) (∑ j : Fin 2048, weight m c h i j)

/-- Head `h`'s share of the result. -/
def share (c : Dev nD) (h : Fin 16) (i : Fin 2048) (n : Fin 1024) : EReal :=
  ∑ d : Fin 64, headOut m c h i d * argWo m c (ix2 n (col h d))

/-- The kernel's result at an index. -/
def kernelVal (c : Dev nD) (i : Fin 2048) (n : Fin 1024) : EReal :=
  (∑ h : Fin 16, share m c h i n) + argBo m c (ix1 n)

/-! ## One point's boxes -/

theorem qBox_apply (c : Dev nD) (q k : ℕ) (hq : q < 2) (hk : k < 8) (r : Fin 1024) (e : Fin 128) :
    qBox (pt (6 + 8 * q + k)) (qkv m c) (ix2 r e)
      = qScaled m c ⟨1024 * q + r.val, by omega⟩ ⟨128 * k + e.val, by omega⟩ := by
  have hp : (pt (6 + 8 * q + k)).val = 6 + 8 * q + k := Nat.mod_eq_of_lt (by omega)
  obtain ⟨h0, h1⟩ := offQ (pt (6 + 8 * q + k)) (by omega)
  rw [hp] at h0 h1
  rw [← qkv_q, ix2_eq_valueIdx, ix2_eq_valueIdx]
  refine congrArg (qkv m c) (funext fun a => Fin.ext ?_)
  match a with
  | ⟨0, _⟩ =>
    show (k0_off2 (grid0.coords (pt (6 + 8 * q + k))) 0 + r.val) % 2048 = 1024 * q + r.val
    rw [h0]; omega
  | ⟨1, _⟩ =>
    show (k0_off2 (grid0.coords (pt (6 + 8 * q + k))) 1 + e.val) % 3072 = 128 * k + e.val
    rw [h1]; omega

theorem kBox_apply (c : Dev nD) (q k : ℕ) (hq : q < 2) (hk : k < 8) (j : Fin 2048) (e : Fin 128) :
    kBox (pt (6 + 8 * q + k)) (qkv m c) (ix2 j e) = keys m c j ⟨128 * k + e.val, by omega⟩ := by
  have hp : (pt (6 + 8 * q + k)).val = 6 + 8 * q + k := Nat.mod_eq_of_lt (by omega)
  obtain ⟨h0, h1⟩ := offK (pt (6 + 8 * q + k)) (by omega)
  rw [hp] at h1
  rw [← qkv_k, ix2_eq_valueIdx, ix2_eq_valueIdx]
  refine congrArg (qkv m c) (funext fun a => Fin.ext ?_)
  match a with
  | ⟨0, _⟩ =>
    show (k0_off3 (grid0.coords (pt (6 + 8 * q + k))) 1024#32 0 + j.val) % 2048 = j.val
    rw [h0]; omega
  | ⟨1, _⟩ =>
    show (k0_off3 (grid0.coords (pt (6 + 8 * q + k))) 1024#32 1 + e.val) % 3072 = 1024 + (128 * k + e.val)
    rw [h1]; omega

theorem vBox_apply (c : Dev nD) (q k : ℕ) (hq : q < 2) (hk : k < 8) (j : Fin 2048) (e : Fin 128) :
    vBox (pt (6 + 8 * q + k)) (qkv m c) (ix2 j e) = vals m c j ⟨128 * k + e.val, by omega⟩ := by
  have hp : (pt (6 + 8 * q + k)).val = 6 + 8 * q + k := Nat.mod_eq_of_lt (by omega)
  obtain ⟨h0, h1⟩ := offV (pt (6 + 8 * q + k)) (by omega)
  rw [hp] at h1
  rw [← qkv_v, ix2_eq_valueIdx, ix2_eq_valueIdx]
  refine congrArg (qkv m c) (funext fun a => Fin.ext ?_)
  match a with
  | ⟨0, _⟩ =>
    show (k0_off3 (grid0.coords (pt (6 + 8 * q + k))) 2048#32 0 + j.val) % 2048 = j.val
    rw [h0]; omega
  | ⟨1, _⟩ =>
    show (k0_off3 (grid0.coords (pt (6 + 8 * q + k))) 2048#32 1 + e.val) % 3072 = 2048 + (128 * k + e.val)
    rw [h1]; omega

/-- One head of one point: its share of the result. -/
theorem headTerm_eq (c : Dev nD) (q k b : ℕ) (hq : q < 2) (hk : k < 8) (hb : b < 2) (r n : Fin 1024) :
    headTerm (64 * b) (by omega) (k0_pay2 (F := Ideal) (iblk m c 4 (pt (6 + 8 * q + k)))) (qBox (pt (6 + 8 * q + k)) (qkv m c))
        (kBox (pt (6 + 8 * q + k)) (qkv m c)) (vBox (pt (6 + 8 * q + k)) (qkv m c)) r n
      = share m c ⟨2 * k + b, by omega⟩ ⟨1024 * q + r.val, by omega⟩ n := by
  have hp : (pt (6 + 8 * q + k)).val = 6 + 8 * q + k := Nat.mod_eq_of_lt (by omega)
  unfold headTerm share headOut weight
  refine Finset.sum_congr rfl fun d _ => ?_
  have hc (e : Fin 64) : (⟨128 * k + (64 * b + e.val), by omega⟩ : Fin 1024) = col ⟨2 * k + b, by omega⟩ e :=
    Fin.ext (by show 128 * k + (64 * b + e.val) = 64 * (2 * k + b) + e.val; omega)
  have hw (e : Fin 64) : k0_pay2 (F := Ideal) (iblk m c 4 (pt (6 + 8 * q + k))) (ix2 n ⟨64 * b + e.val, by omega⟩)
      = argWo m c (ix2 n (col ⟨2 * k + b, by omega⟩ e)) := by
    rw [pay2_apply, block_wo]
    refine congrArg (argWo m c) (congrArg (ix2 n) (Fin.ext ?_))
    show 128 * (((pt (6 + 8 * q + k)).val - 6) % 8) + (64 * b + e.val) = 64 * (2 * k + b) + e.val
    rw [hp]; omega
  rw [hw d]
  simp only [qBox_apply m c q k hq hk, kBox_apply m c q k hq hk, vBox_apply m c q k hq hk, hc]

/-- One point: the shares of its two heads. -/
theorem point_eq (c : Dev nD) (q k : ℕ) (hq : q < 2) (hk : k < 8) (r n : Fin 1024) :
    k0_pay3 (F := Ideal) (k0_pay2 (iblk m c 4 (pt (6 + 8 * q + k)))) (qBox (pt (6 + 8 * q + k)) (qkv m c))
        (kBox (pt (6 + 8 * q + k)) (qkv m c)) (vBox (pt (6 + 8 * q + k)) (qkv m c)) (ix2 r n)
      = share m c ⟨2 * k, by omega⟩ ⟨1024 * q + r.val, by omega⟩ n
        + share m c ⟨2 * k + 1, by omega⟩ ⟨1024 * q + r.val, by omega⟩ n := by
  rw [pay3_apply]
  exact congrArg₂ (· + ·) (headTerm_eq m c q k 0 hq hk (by omega) r n) (headTerm_eq m c q k 1 hq hk (by omega) r n)

/-! ## The running sums -/

/-- The share of head `h`, zero past the last head. -/
def shareN (c : Dev nD) (i : Fin 2048) (n : Fin 1024) (h : ℕ) : EReal :=
  if hh : h < 16 then share m c ⟨h, hh⟩ i n else 0

theorem outSum_apply (c : Dev nD) (q : ℕ) (hq : q < 2) (r n : Fin 1024) : ∀ k : ℕ, k < 8 →
    outSum m c q k (ix2 r n)
      = (∑ h ∈ Finset.range (2 * (k + 1)), shareN m c ⟨1024 * q + r.val, by omega⟩ n h) + argBo m c (ix1 n)
  | 0, hk => by
    show firstOut m c (pt (6 + 8 * q)) (ix2 r n) = _
    unfold firstOut
    rw [pay4_apply, bo_apply]
    refine congrArg (· + argBo m c (ix1 n)) ?_
    refine (point_eq m c q 0 hq hk r n).trans ?_
    rw [show 2 * (0 + 1) = 2 from rfl, Finset.sum_range_succ, Finset.sum_range_succ, Finset.sum_range_zero, zero_add]
    unfold shareN
    rw [dif_pos (by norm_num), dif_pos (by norm_num)]
  | k + 1, hk => by
    show nextOut m c (pt (6 + 8 * q + (k + 1))) (outSum m c q k) (ix2 r n) = _
    unfold nextOut
    rw [pay5_apply, outSum_apply c q hq r n k (by omega), point_eq m c q (k + 1) hq hk r n,
      show 2 * (k + 1 + 1) = 2 * (k + 1) + 1 + 1 by omega, Finset.sum_range_succ, Finset.sum_range_succ]
    have e0 : shareN m c ⟨1024 * q + r.val, by omega⟩ n (2 * (k + 1))
        = share m c ⟨2 * (k + 1), by omega⟩ ⟨1024 * q + r.val, by omega⟩ n := dif_pos (by omega)
    have e1 : shareN m c ⟨1024 * q + r.val, by omega⟩ n (2 * (k + 1) + 1)
        = share m c ⟨2 * (k + 1) + 1, by omega⟩ ⟨1024 * q + r.val, by omega⟩ n := dif_pos (by omega)
    rw [e0, e1]
    abel

/-- After its eighth point an output block holds its rows of the result. -/
theorem outSum_last (c : Dev nD) (q : ℕ) (hq : q < 2) (r n : Fin 1024) :
    outSum m c q 7 (ix2 r n) = kernelVal m c ⟨1024 * q + r.val, by omega⟩ n := by
  rw [outSum_apply m c q hq r n 7 (by norm_num)]
  unfold kernelVal
  rw [show 2 * (7 + 1) = 16 from rfl, Finset.sum_range]
  refine congrArg (· + argBo m c (ix1 n)) (Finset.sum_congr rfl fun h _ => ?_)
  exact dif_pos h.isLt

/-! ## The result array -/

/-- The result array. -/
def kernelArr (c : Dev nD) : FVec Ideal S2048x1024 .f32 := fun y => kernelVal m c (y 0) (y 1)

theorem flushed_eq (c : Dev nD) (t : Fin cfg0.N) (ht : (cfg0.win 6).flush t = true) :
    (dats m 0 c).flushed 6 t = ((cfg0.win 6).blk t).view.read (Elt Ideal) (kernelArr m c) := by
  have h := (flush6_iff t).mp ht
  show (cfg0.win 6).cut (grid0.coords t) ((dats m 0 c).after 6 t) = _
  rw [after_6]
  funext y
  rw [View.read_apply]
  have e7 : (t.val - 6) % 8 = 7 := by omega
  have hq : (t.val - 6) / 8 < 2 := by omega
  rw [e7]
  have main (z : S1024x1024.Idx) : outSum m c ((t.val - 6) / 8) 7 z
      = kernelVal m c ⟨1024 * ((t.val - 6) / 8) + (z 0).val, by have : (z 0).val < 1024 := (z 0).isLt; omega⟩ (z 1) := by
    have hz := outSum_last m c _ hq (z 0) (z 1)
    exact (congrArg (outSum m c ((t.val - 6) / 8) 7) (eq_ix2 z)).trans hz
  refine (main y).trans ?_
  show _ = kernelArr m c _
  unfold kernelArr
  congr 1
  · apply Fin.ext
    show 1024 * ((t.val - 6) / 8) + (y 0).val = win0_6.index t 0 * 1024 + 1 * (y 0).val
    rw [(index6 t).1]; omega
  · apply Fin.ext
    show (y 1).val = win0_6.index t 1 * 1024 + 1 * (y 1).val
    rw [(index6 t).2]; omega

theorem mem_blk (t : Fin cfg0.N) (i : S2048x1024.Idx) :
    i ∈ ((cfg0.win 6).blk t).view.set
      ↔ 1024 * ((t.val - 6) / 8) ≤ (i 0).val ∧ (i 0).val < 1024 * ((t.val - 6) / 8) + 1024 := by
  show i ∈ ((View.whole main_v12).slice (win0_6.rect t)).set ↔ _
  rw [View.set_slice_whole, Rect.mem_set_unit]
  have h1 : (i 1).val < 1024 := (i 1).isLt
  have hx : win0_6.xsize (grid0.coords t) 0 = 1024 ∧ win0_6.xsize (grid0.coords t) 1 = 1024 :=
    (by decide +kernel : ∀ t : Fin cfg0.N, win0_6.xsize (grid0.coords t) 0 = 1024 ∧ win0_6.xsize (grid0.coords t) 1 = 1024) t
  obtain ⟨e0, e1⟩ := index6 t
  refine ⟨fun h => ?_, fun h a => ?_⟩
  · have : win0_6.index t 0 * 1024 ≤ (i 0).val ∧ (i 0).val < win0_6.index t 0 * 1024 + win0_6.xsize (grid0.coords t) 0 := h 0
    rw [e0, hx.1] at this; omega
  · match a with
    | ⟨0, _⟩ =>
      show win0_6.index t 0 * 1024 ≤ (i 0).val ∧ (i 0).val < win0_6.index t 0 * 1024 + win0_6.xsize (grid0.coords t) 0
      rw [e0, hx.1]; omega
    | ⟨1, _⟩ =>
      show win0_6.index t 1 * 1024 ≤ (i 1).val ∧ (i 1).val < win0_6.index t 1 * 1024 + win0_6.xsize (grid0.coords t) 1
      rw [e1, hx.2]; omega

theorem cover (i : S2048x1024.Idx) :
    ∃ t : Fin cfg0.N, (cfg0.win 6).flush t = true ∧ i ∈ ((cfg0.win 6).blk t).view.set := by
  have h0 : (i 0).val < 2048 := (i 0).isLt
  have hp : (pt (13 + 8 * ((i 0).val / 1024))).val = 13 + 8 * ((i 0).val / 1024) := Nat.mod_eq_of_lt (by omega)
  refine ⟨pt (13 + 8 * ((i 0).val / 1024)), (flush6_iff _).mpr (by omega), (mem_blk _ _).mpr ?_⟩
  omega

/-- The result array at the end of the run. -/
theorem final (c : Dev nD) : (dats m 0 c).arrAt 6 cfg0.N = kernelArr m c :=
  (dats m 0 c).arrAt_eq_of_cover 6 (kernelArr m c) (fun t ht => flushed_eq m c t ht) cover

/-- The kernel's run, read: the result array at its value, the arguments unchanged. -/
theorem run : θ_run defs (onTc (τ := τ) (main (F := Ideal))) ⟨m, fun _ => 0, ρ⟩ (fun r => ∀ c : Dev nD,
      r.2.mem ((c.tc : Thread nD τ).loc main_v12) = kernelArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h.1.1 c).1 6).trans (final m c), h.2.1 c⟩)
    (θ_run_and (run_frame m ρ) (frame m ρ))

end Cert.Proof.K

end
-- ==== Proof.Equal.lean ====
module

public import proofs.«01_k».proof.Proof.RAtt
public import proofs.«01_k».proof.Proof.KOut

@[expose] public section

set_option maxRecDepth 16384

noncomputable section

/-! The kernel's result is the reference's where the queries and keys are real. -/

namespace Cert.Proof.Equal

open Idealize.ShloMosaic
open Cert.KernelIdeal
open Cert.Proof.K (qs qScaled keys vals col weight headOut share kernelVal kernelArr argX argWqk argBqk argWv argBv argWo argBo)
open Cert.Proof.Ref (hcol projQK projSq heads headsQ headsK unheads attention refOut)

/-- The projection of real arrays, in the reals. -/
def proj (X W : Fin 2048 → Fin 1024 → ℝ) (B : Fin 2048 → ℝ) (i j : Fin 2048) : ℝ := (∑ d, X i d * W j d) + B j

theorem proj_real (x w : Fin 2048 → Fin 1024 → EReal) (b : Fin 2048 → EReal) (X W : Fin 2048 → Fin 1024 → ℝ)
    (B : Fin 2048 → ℝ) (hx : ∀ i d, x i d = (X i d : EReal)) (hw : ∀ j d, w j d = (W j d : EReal))
    (hb : ∀ j, b j = (B j : EReal)) (i j : Fin 2048) :
    (∑ d, x i d * w j d) + b j = ((proj X W B i j : ℝ) : EReal) := by
  unfold proj
  rw [hb, EReal.coe_add, ← Softmax.sum_real]
  congr 1
  refine Finset.sum_congr rfl fun d _ => ?_
  rw [hx, hw, EReal.coe_mul]

theorem proj_scaled (x w : Fin 2048 → Fin 1024 → EReal) (b : Fin 2048 → EReal) (X W : Fin 2048 → Fin 1024 → ℝ)
    (B : Fin 2048 → ℝ) (hx : ∀ i d, x i d = (X i d : EReal)) (hw : ∀ j d, w j d = (W j d : EReal))
    (hb : ∀ j, b j = (B j : EReal)) (i j : Fin 2048) :
    (∑ d, x i d * (w j d * qs)) + b j * qs = ((proj X W B i j * (8 * Real.log 2)⁻¹ : ℝ) : EReal) := by
  unfold proj
  rw [add_mul, Finset.sum_mul, EReal.coe_add, ← Softmax.sum_real, hb]
  unfold qs
  rw [← EReal.coe_mul]
  congr 1
  refine Finset.sum_congr rfl fun d _ => ?_
  rw [hx, hw, ← EReal.coe_mul, ← EReal.coe_mul, mul_assoc]

/-- A sum over the columns, head by head. -/
theorem sum_heads (f : Fin 1024 → EReal) : ∑ d : Fin 1024, f d = ∑ h : Fin 16, ∑ e : Fin 64, f (hcol h e) := by
  rw [← Fintype.sum_prod_type' (fun h e => f (hcol h e))]
  refine (Equiv.sum_comp (finProdFinEquiv (m := 16) (n := 64)) f).symm.trans ?_
  refine Finset.sum_congr rfl fun p _ => ?_
  congr 1
  apply Fin.ext
  show p.2.val + 64 * p.1.val = 64 * p.1.val + p.2.val
  omega

/-- The kernel's weight of one row in another's attention. -/
theorem weight_real (q k : Fin 64 → EReal) (Q K : Fin 64 → ℝ)
    (hq : ∀ e, q e = ((Q e * (8 * Real.log 2)⁻¹ : ℝ) : EReal)) (hk : ∀ e, k e = (K e : EReal)) :
    Ideal.exp2 (∑ e, q e * k e) = Ideal.exp (((∑ e, Q e * K e) * (1 / 8) : ℝ) : EReal) := by
  rw [← Softmax.exp2_scaled]
  congr 1
  rw [Finset.sum_mul, ← Softmax.sum_real]
  refine Finset.sum_congr rfl fun e _ => ?_
  rw [hq, hk, ← EReal.coe_mul]
  congr 1
  ring

variable (m : (ℓ : Loc nD τ sig) → Buf (Elt Ideal) ℓ)

/-- One head's attention, the kernel's and the reference's. -/
theorem head_eq (c : Dev nD) (rot : FVec Ideal Cert.ReferenceIdeal.S16x4x64 .f32)
    (hx : ∀ y, ∃ r : ℝ, argX m c y = (r : EReal)) (hw : ∀ y, ∃ r : ℝ, argWqk m c y = (r : EReal))
    (hb : ∀ y, ∃ r : ℝ, argBqk m c y = (r : EReal)) (h : Fin 16) (i : Fin 2048) (d : Fin 64) :
    attention (headsQ (projQK (argX m c) (argWqk m c) (argBqk m c)))
      (headsK (projQK (argX m c) (argWqk m c) (argBqk m c))) (heads (projSq (argX m c) (argWv m c) (argBv m c))) rot
      (ix4 0 h i d) = headOut m c h i d := by
  have hx' : ∀ i d, argX m c (ix3 0 i d) = (((hx (ix3 0 i d)).choose : ℝ) : EReal) := fun i d => (hx _).choose_spec
  have hw' : ∀ j d, argWqk m c (ix2 j d) = (((hw (ix2 j d)).choose : ℝ) : EReal) := fun j d => (hw _).choose_spec
  have hb' : ∀ j, argBqk m c (ix1 j) = (((hb (ix1 j)).choose : ℝ) : EReal) := fun j => (hb _).choose_spec
  generalize hX : (fun (i : Fin 2048) (d : Fin 1024) => (hx (ix3 0 i d)).choose) = X
  generalize hW : (fun (j : Fin 2048) (d : Fin 1024) => (hw (ix2 j d)).choose) = W
  generalize hB : (fun (j : Fin 2048) => (hb (ix1 j)).choose) = B
  replace hx' : ∀ i d, argX m c (ix3 0 i d) = (X i d : EReal) := fun i d => by rw [← hX]; exact hx' i d
  replace hw' : ∀ j d, argWqk m c (ix2 j d) = (W j d : EReal) := fun j d => by rw [← hW]; exact hw' j d
  replace hb' : ∀ j, argBqk m c (ix1 j) = (B j : EReal) := fun j => by rw [← hB]; exact hb' j
  have hq : ∀ h r e, headsQ (projQK (argX m c) (argWqk m c) (argBqk m c)) (ix4 0 h r e)
      = ((proj X W B r ⟨(hcol h e).val, by omega⟩ : ℝ) : EReal) := fun h r e =>
    (Ref.headsQ_apply _ h r e).trans ((Ref.projQK_apply _ _ _ _ _).trans
      (proj_real (fun i d => argX m c (ix3 0 i d)) (fun j d => argWqk m c (ix2 j d)) (fun j => argBqk m c (ix1 j))
        X W B hx' hw' hb' _ _))
  have hk : ∀ h r e, headsK (projQK (argX m c) (argWqk m c) (argBqk m c)) (ix4 0 h r e)
      = ((proj X W B r ⟨1024 + (hcol h e).val, by omega⟩ : ℝ) : EReal) := fun h r e =>
    (Ref.headsK_apply _ h r e).trans ((Ref.projQK_apply _ _ _ _ _).trans
      (proj_real (fun i d => argX m c (ix3 0 i d)) (fun j d => argWqk m c (ix2 j d)) (fun j => argBqk m c (ix1 j))
        X W B hx' hw' hb' _ _))
  have hv : ∀ j, heads (projSq (argX m c) (argWv m c) (argBv m c)) (ix4 0 h j d) = vals m c j (col h d) := fun j =>
    (Ref.heads_apply _ h j d).trans (Ref.projSq_apply _ _ _ _ _)
  have hwt : ∀ j, weight m c h i j = Ideal.exp (((∑ e, proj X W B i ⟨(hcol h e).val, by omega⟩
      * proj X W B j ⟨1024 + (hcol h e).val, by omega⟩) * (1 / 8) : ℝ) : EReal) := fun j =>
    weight_real (fun e => qScaled m c i (col h e)) (fun e => keys m c j (col h e)) _ _
      (fun e => proj_scaled (fun i d => argX m c (ix3 0 i d)) (fun j d => argWqk m c (ix2 j d))
        (fun j => argBqk m c (ix1 j)) X W B hx' hw' hb' i ⟨(col h e).val, by omega⟩)
      (fun e => proj_real (fun i d => argX m c (ix3 0 i d)) (fun j d => argWqk m c (ix2 j d))
        (fun j => argBqk m c (ix1 j)) X W B hx' hw' hb' j ⟨1024 + (col h e).val, by omega⟩)
  refine (Ref.attention_apply _ _ _ rot _ _ hq hk h i d).trans ?_
  unfold headOut
  simp only [hwt, hv]

/-- The whole result. -/
theorem result_eq (c : Dev nD) (rot : FVec Ideal Cert.ReferenceIdeal.S16x4x64 .f32)
    (hx : ∀ y, ∃ r : ℝ, argX m c y = (r : EReal)) (hw : ∀ y, ∃ r : ℝ, argWqk m c y = (r : EReal))
    (hb : ∀ y, ∃ r : ℝ, argBqk m c y = (r : EReal)) :
    refOut (argX m c) (argWqk m c) (argBqk m c) (argWv m c) (argBv m c) (argWo m c) (argBo m c) rot
      = kernelArr m c := by
  have hA := head_eq m c rot hx hw hb
  have main : ∀ (i : Fin 2048) (n : Fin 1024),
      refOut (argX m c) (argWqk m c) (argBqk m c) (argWv m c) (argBv m c) (argWo m c) (argBo m c) rot (ix2 i n)
        = kernelVal m c i n := by
    intro i n
    refine (Ref.refOut_apply _ _ _ _ _ _ _ rot i n).trans ?_
    generalize attention _ _ _ rot = A at hA
    refine (Ref.projSq_apply _ _ _ i n).trans ?_
    unfold kernelVal
    congr 1
    rw [sum_heads]
    refine Finset.sum_congr rfl fun h _ => ?_
    unfold share
    refine Finset.sum_congr rfl fun e _ => ?_
    rw [Ref.unheads_apply, hA]
    rfl
  funext y
  have hy : y = ix2 (y 0) (y 1) := by
    funext a
    match a with
    | ⟨0, _⟩ => rfl
    | ⟨1, _⟩ => rfl
  exact (congrArg _ hy).trans (main (y 0) (y 1))

end Cert.Proof.Equal

end
-- ==== Proof.Finite.lean ====
module

public import proofs.«01_k».proof.Defs
public import proofs.«01_k».proof.Proof.Gen.Pre_finite_qk
public import Idealize.ShloMosaic.Lib.Pointwise
public import Idealize.ShloMosaic.Lib.IdealHost
public import Idealize.ShloMosaic.Lib.ReduceAll

@[expose] public section

set_option maxRecDepth 16384

noncomputable section

/-! What the precondition says: the input, the query and key weights and their bias are real everywhere. -/

namespace Cert.Proof.Finite

open Idealize.ShloMosaic
open Cert.Pre_finite_qk Cert.Pre_finite_qk.Facts

theorem ofBits_inf : Ideal.ofBits .f32 0x7F800000#32 = ⊤ := by
  simp [Ideal.ofBits, Ideal.ieee]

theorem real_of_abs_lt (x : EReal) (h : Ideal.cmp .olt (max x (-x)) ⊤ = 1#1) : ∃ r : ℝ, x = (r : EReal) := by
  have hlt : max x (-x) < ⊤ := by
    by_contra hn
    simp [Ideal.cmp, hn] at h
  have h1 : x ≠ ⊤ := (lt_of_le_of_lt (le_max_left _ _) hlt).ne
  have h2 : x ≠ ⊥ := by
    rintro rfl
    simp at hlt
  exact ⟨x.toReal, (EReal.coe_toReal h1 h2).symm⟩

/-- One array's test. -/
def test {s : Shape} (x : FVec Ideal s .f32) (h : S_.BroadcastsInDim s (![] : Fin 0 → Fin s.rank)) : IVec s 1 :=
  cmpf .olt (Host.absf x) (broadcastInDim s ![] h (constant S_ .f32 0x7F800000#32))

theorem real_of_test {s : Shape} (x : FVec Ideal s .f32) (h : S_.BroadcastsInDim s (![] : Fin 0 → Fin s.rank)) (y : s.Idx)
    (ht : test x h y = 1#1) : ∃ r : ℝ, x y = (r : EReal) := by
  refine real_of_abs_lt (x y) ?_
  have he : test x h y = Ideal.cmp .olt (max (x y) (-(x y))) (Ideal.ofBits .f32 0x7F800000#32) := rfl
  rw [← ofBits_inf, ← he]
  exact ht

theorem and_one {a b : BitVec 1} (h : IntOp.andi a b = 1#1) : a = 1#1 ∧ b = 1#1 := by
  revert a b
  decide

instance : Subsingleton S_.Idx := ⟨fun a b => funext fun i => i.elim0⟩

theorem real_args (x : FVec Ideal S1x2048x1024 .f32) (w : FVec Ideal S2048x1024 .f32) (b : FVec Ideal S2048 .f32)
    (wv : FVec Ideal S1024x1024 .f32) (bv : FVec Ideal S1024 .f32) (wo : FVec Ideal S1024x1024 .f32)
    (bo : FVec Ideal S1024 .f32) (rot : FVec Ideal S16x4x64 .f32)
    (hp : Cert.Pre_finite_qk.fn (F := Ideal) x w b wv bv wo bo rot = fun _ => 1#1) :
    (∀ y, ∃ r : ℝ, x y = (r : EReal)) ∧ (∀ y, ∃ r : ℝ, w y = (r : EReal)) ∧ (∀ y, ∃ r : ℝ, b y = (r : EReal)) := by
  have hf := congrFun hp (fun i => i.elim0)
  obtain ⟨h12, h3⟩ := and_one hf
  obtain ⟨h1, h2⟩ := and_one h12
  exact ⟨fun y => real_of_test x bcast_S_S1x2048x1024 y (Host.reduce_andi_all _ _ _ _ _ h1 y),
    fun y => real_of_test w bcast_S_S2048x1024 y (Host.reduce_andi_all _ _ _ _ _ h2 y),
    fun y => real_of_test b bcast_S_S2048 y (Host.reduce_andi_all _ _ _ _ _ h3 y)⟩

end Cert.Proof.Finite

end
-- ==== Proof.Algebraic.lean ====
module

public import proofs.«01_k».proof.Proof.Equal
public import proofs.«01_k».proof.Proof.Finite
public import proofs.«01_k».proof.Proof.RefRun

@[expose] public section

set_option maxRecDepth 16384

noncomputable section

/-! The value claim: from equal arguments the kernel and the reference end with one array. -/

namespace Cert.Proof

open Idealize.ShloMosaic

theorem algebraic : Cert.algebraic_KernelIdeal_ReferenceIdeal_pre_finite_qk := by
  intro m g m' g' hpre hargs
  refine ⟨fun c => K.kernelArr m c, K.run m g, Ref.run (fun c => K.kernelArr m c) m' g' fun c => ?_⟩
  obtain ⟨hx, hw, hb⟩ := Finite.real_args _ _ _ _ _ _ _ _ (hpre c)
  obtain ⟨h0, h1, h2, h3, h4, h5, h6, h7⟩ := hargs c
  rw [h0, h1, h2, h3, h4, h5, h6]
  exact (Equal.result_eq m c _ hx hw hb).symm

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_qk
public import proofs.«01_k».proof.Proof.BitsFrame
public import proofs.«01_k».proof.Proof.KRun
public import proofs.«01_k».proof.Proof.RefRun
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_qk.Gen.facts,
    Cert.Proof.bitsFrame, fun m ρ _ => Cert.Proof.K.frame m ρ, fun m ρ _ => Cert.Proof.K.frame m ρ,
    Cert.Proof.Ref.frame, fun m ρ _ => Cert.Proof.Ref.frame m ρ trivial,
    IdealRules.named_const.statement Cert.KernelIdeal.κ "qscale" .f32 0x3E38AA3B#32 _ rfl, Cert.Proof.algebraic⟩

end Cert.Proof

end
